-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x1024 : Shape := ⟨2, ![1024, 1024]⟩
abbrev S512x1024 : Shape := ⟨2, ![512, 1024]⟩
abbrev S8 : Shape := ⟨1, ![8]⟩
abbrev S4 : Shape := ⟨1, ![4]⟩
abbrev S_ : Shape := ⟨0, ![]⟩
abbrev S1 : Shape := ⟨1, ![1]⟩
abbrev S128x1024 : Shape := ⟨2, ![128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  (ofTc nBuf bufTy 1 88 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v26 : BitVec 32 := Scalar.muli v2 c4_i32_15
  let v27 : BitVec 32 := Scalar.addi c0_i32 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v28 : BitVec 32 := Scalar.muli v5 c2_i32_16
  let v29 : BitVec 32 := Scalar.addi v27 v28
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_17 : BitVec 32 := 1#32
  let v30 : BitVec 32 := Scalar.muli v9 c1_i32_17
  let v31 : BitVec 32 := Scalar.addi v29 v30
  v31.toNat
def k0_dev2 (d0 : Dev nD) : Nat :=
  let c0_i32_20 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_19 : BitVec 32 := 4#32
  let v32 : BitVec 32 := Scalar.muli v10 c4_i32_19
  let v33 : BitVec 32 := Scalar.addi c0_i32_20 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v34 : BitVec 32 := Scalar.muli v5 c2_i32_21
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v36 : BitVec 32 := Scalar.muli v8 c1_i32_22
  let v37 : BitVec 32 := Scalar.addi v35 v36
  v37.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v38 : BitVec 32 := Scalar.muli v2 c4_i32_24
  let v39 : BitVec 32 := Scalar.addi c0_i32_25 v38
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_26 : BitVec 32 := 2#32
  let v40 : BitVec 32 := Scalar.muli v11 c2_i32_26
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v42 : BitVec 32 := Scalar.muli v8 c1_i32_27
  let v43 : BitVec 32 := Scalar.addi v41 v42
  v43.toNat
def k0_off1 (d0 : Dev nD) (c0_i32_28 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c1024_i32 : BitVec 32 := 1024#32
  let v24 : BitVec 32 := Scalar.muli v13 c1024_i32
  let v44 : BitVec 32 := Scalar.addi v24 c0_i32_28
  let c0_i32_37 : BitVec 32 := 0#32
  ![v44.toNat, 0]
def k0_dev4 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v45 : BitVec 32 := Scalar.muli v2 c4_i32_31
  let v46 : BitVec 32 := Scalar.addi c0_i32_32 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v47 : BitVec 32 := Scalar.muli v5 c2_i32_33
  let v48 : BitVec 32 := Scalar.addi v46 v47
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_34 : BitVec 32 := 1#32
  let v49 : BitVec 32 := Scalar.muli v9 c1_i32_34
  let v50 : BitVec 32 := Scalar.addi v48 v49
  v50.toNat
def k0_dev5 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v62 : BitVec 32 := Scalar.muli v2 c4_i32_44
  let v63 : BitVec 32 := Scalar.addi c0_i32_45 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v64 : BitVec 32 := Scalar.muli v5 c2_i32_46
  let v65 : BitVec 32 := Scalar.addi v63 v64
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_47 : BitVec 32 := 1#32
  let v66 : BitVec 32 := Scalar.muli v9 c1_i32_47
  let v67 : BitVec 32 := Scalar.addi v65 v66
  v67.toNat
def k0_dev6 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v79 : BitVec 32 := Scalar.muli v2 c4_i32_57
  let v80 : BitVec 32 := Scalar.addi c0_i32_58 v79
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v81 : BitVec 32 := Scalar.muli v5 c2_i32_59
  let v82 : BitVec 32 := Scalar.addi v80 v81
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_60 : BitVec 32 := 1#32
  let v83 : BitVec 32 := Scalar.muli v9 c1_i32_60
  let v84 : BitVec 32 := Scalar.addi v82 v83
  v84.toNat
def k0_dev7 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v96 : BitVec 32 := Scalar.muli v2 c4_i32_70
  let v97 : BitVec 32 := Scalar.addi c0_i32_71 v96
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v98 : BitVec 32 := Scalar.muli v5 c2_i32_72
  let v99 : BitVec 32 := Scalar.addi v97 v98
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_73 : BitVec 32 := 1#32
  let v100 : BitVec 32 := Scalar.muli v9 c1_i32_73
  let v101 : BitVec 32 := Scalar.addi v99 v100
  v101.toNat
def k0_dev8 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v113 : BitVec 32 := Scalar.muli v2 c4_i32_83
  let v114 : BitVec 32 := Scalar.addi c0_i32_84 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v115 : BitVec 32 := Scalar.muli v5 c2_i32_85
  let v116 : BitVec 32 := Scalar.addi v114 v115
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_86 : BitVec 32 := 1#32
  let v117 : BitVec 32 := Scalar.muli v9 c1_i32_86
  let v118 : BitVec 32 := Scalar.addi v116 v117
  v118.toNat
def k0_dev9 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_95 : BitVec 32 := 4#32
  let v130 : BitVec 32 := Scalar.muli v2 c4_i32_95
  let v131 : BitVec 32 := Scalar.addi c0_i32_96 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_97 : BitVec 32 := 2#32
  let v132 : BitVec 32 := Scalar.muli v5 c2_i32_97
  let v133 : BitVec 32 := Scalar.addi v131 v132
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_98 : BitVec 32 := 1#32
  let v134 : BitVec 32 := Scalar.muli v9 c1_i32_98
  let v135 : BitVec 32 := Scalar.addi v133 v134
  v135.toNat
def k0_dev10 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_107 : BitVec 32 := 4#32
  let v147 : BitVec 32 := Scalar.muli v2 c4_i32_107
  let v148 : BitVec 32 := Scalar.addi c0_i32_108 v147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_109 : BitVec 32 := 2#32
  let v149 : BitVec 32 := Scalar.muli v5 c2_i32_109
  let v150 : BitVec 32 := Scalar.addi v148 v149
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_110 : BitVec 32 := 1#32
  let v151 : BitVec 32 := Scalar.muli v9 c1_i32_110
  let v152 : BitVec 32 := Scalar.addi v150 v151
  v152.toNat
def k0_dev11 (d0 : Dev nD) : Nat :=
  let c0_i32_120 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_119 : BitVec 32 := 4#32
  let v164 : BitVec 32 := Scalar.muli v2 c4_i32_119
  let v165 : BitVec 32 := Scalar.addi c0_i32_120 v164
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_121 : BitVec 32 := 2#32
  let v166 : BitVec 32 := Scalar.muli v5 c2_i32_121
  let v167 : BitVec 32 := Scalar.addi v165 v166
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_122 : BitVec 32 := 1#32
  let v168 : BitVec 32 := Scalar.muli v9 c1_i32_122
  let v169 : BitVec 32 := Scalar.addi v167 v168
  v169.toNat
def k0_dev12 (d0 : Dev nD) : Nat :=
  let c0_i32_156 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_155 : BitVec 32 := 4#32
  let v205 : BitVec 32 := Scalar.muli v10 c4_i32_155
  let v206 : BitVec 32 := Scalar.addi c0_i32_156 v205
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_157 : BitVec 32 := 2#32
  let v207 : BitVec 32 := Scalar.muli v5 c2_i32_157
  let v208 : BitVec 32 := Scalar.addi v206 v207
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_158 : BitVec 32 := 1#32
  let v209 : BitVec 32 := Scalar.muli v8 c1_i32_158
  let v210 : BitVec 32 := Scalar.addi v208 v209
  v210.toNat
def k0_dev13 (d0 : Dev nD) : Nat :=
  let c0_i32_166 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_165 : BitVec 32 := 4#32
  let v217 : BitVec 32 := Scalar.muli v2 c4_i32_165
  let v218 : BitVec 32 := Scalar.addi c0_i32_166 v217
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_167 : BitVec 32 := 2#32
  let v219 : BitVec 32 := Scalar.muli v11 c2_i32_167
  let v220 : BitVec 32 := Scalar.addi v218 v219
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_168 : BitVec 32 := 1#32
  let v221 : BitVec 32 := Scalar.muli v8 c1_i32_168
  let v222 : BitVec 32 := Scalar.addi v220 v221
  v222.toNat
def k0_dev14 (d0 : Dev nD) : Nat :=
  let c0_i32_198 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_197 : BitVec 32 := 4#32
  let v254 : BitVec 32 := Scalar.muli v10 c4_i32_197
  let v255 : BitVec 32 := Scalar.addi c0_i32_198 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_199 : BitVec 32 := 2#32
  let v256 : BitVec 32 := Scalar.muli v5 c2_i32_199
  let v257 : BitVec 32 := Scalar.addi v255 v256
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v258 : BitVec 32 := Scalar.muli v8 c1_i32_200
  let v259 : BitVec 32 := Scalar.addi v257 v258
  v259.toNat
def k0_dev15 (d0 : Dev nD) : Nat :=
  let c0_i32_208 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_207 : BitVec 32 := 4#32
  let v266 : BitVec 32 := Scalar.muli v2 c4_i32_207
  let v267 : BitVec 32 := Scalar.addi c0_i32_208 v266
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_209 : BitVec 32 := 2#32
  let v268 : BitVec 32 := Scalar.muli v11 c2_i32_209
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_210 : BitVec 32 := 1#32
  let v270 : BitVec 32 := Scalar.muli v8 c1_i32_210
  let v271 : BitVec 32 := Scalar.addi v269 v270
  v271.toNat
def k0_dev16 (d0 : Dev nD) : Nat :=
  let c0_i32_240 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_239 : BitVec 32 := 4#32
  let v303 : BitVec 32 := Scalar.muli v10 c4_i32_239
  let v304 : BitVec 32 := Scalar.addi c0_i32_240 v303
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_241 : BitVec 32 := 2#32
  let v305 : BitVec 32 := Scalar.muli v5 c2_i32_241
  let v306 : BitVec 32 := Scalar.addi v304 v305
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_242 : BitVec 32 := 1#32
  let v307 : BitVec 32 := Scalar.muli v8 c1_i32_242
  let v308 : BitVec 32 := Scalar.addi v306 v307
  v308.toNat
def k0_dev17 (d0 : Dev nD) : Nat :=
  let c0_i32_250 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_249 : BitVec 32 := 4#32
  let v315 : BitVec 32 := Scalar.muli v2 c4_i32_249
  let v316 : BitVec 32 := Scalar.addi c0_i32_250 v315
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_251 : BitVec 32 := 2#32
  let v317 : BitVec 32 := Scalar.muli v11 c2_i32_251
  let v318 : BitVec 32 := Scalar.addi v316 v317
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_252 : BitVec 32 := 1#32
  let v319 : BitVec 32 := Scalar.muli v8 c1_i32_252
  let v320 : BitVec 32 := Scalar.addi v318 v319
  v320.toNat
def k0_dev18 (d0 : Dev nD) : Nat :=
  let c0_i32_282 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_281 : BitVec 32 := 4#32
  let v352 : BitVec 32 := Scalar.muli v10 c4_i32_281
  let v353 : BitVec 32 := Scalar.addi c0_i32_282 v352
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_283 : BitVec 32 := 2#32
  let v354 : BitVec 32 := Scalar.muli v5 c2_i32_283
  let v355 : BitVec 32 := Scalar.addi v353 v354
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_284 : BitVec 32 := 1#32
  let v356 : BitVec 32 := Scalar.muli v8 c1_i32_284
  let v357 : BitVec 32 := Scalar.addi v355 v356
  v357.toNat
def k0_dev19 (d0 : Dev nD) : Nat :=
  let c0_i32_292 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_291 : BitVec 32 := 4#32
  let v364 : BitVec 32 := Scalar.muli v2 c4_i32_291
  let v365 : BitVec 32 := Scalar.addi c0_i32_292 v364
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_293 : BitVec 32 := 2#32
  let v366 : BitVec 32 := Scalar.muli v11 c2_i32_293
  let v367 : BitVec 32 := Scalar.addi v365 v366
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_294 : BitVec 32 := 1#32
  let v368 : BitVec 32 := Scalar.muli v8 c1_i32_294
  let v369 : BitVec 32 := Scalar.addi v367 v368
  v369.toNat
def k0_dev20 (d0 : Dev nD) : Nat :=
  let c0_i32_324 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_323 : BitVec 32 := 4#32
  let v401 : BitVec 32 := Scalar.muli v10 c4_i32_323
  let v402 : BitVec 32 := Scalar.addi c0_i32_324 v401
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_325 : BitVec 32 := 2#32
  let v403 : BitVec 32 := Scalar.muli v5 c2_i32_325
  let v404 : BitVec 32 := Scalar.addi v402 v403
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_326 : BitVec 32 := 1#32
  let v405 : BitVec 32 := Scalar.muli v8 c1_i32_326
  let v406 : BitVec 32 := Scalar.addi v404 v405
  v406.toNat
def k0_dev21 (d0 : Dev nD) : Nat :=
  let c0_i32_333 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_332 : BitVec 32 := 4#32
  let v413 : BitVec 32 := Scalar.muli v2 c4_i32_332
  let v414 : BitVec 32 := Scalar.addi c0_i32_333 v413
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_334 : BitVec 32 := 2#32
  let v415 : BitVec 32 := Scalar.muli v11 c2_i32_334
  let v416 : BitVec 32 := Scalar.addi v414 v415
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_335 : BitVec 32 := 1#32
  let v417 : BitVec 32 := Scalar.muli v8 c1_i32_335
  let v418 : BitVec 32 := Scalar.addi v416 v417
  v418.toNat
def k0_dev22 (d0 : Dev nD) : Nat :=
  let c0_i32_366 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_365 : BitVec 32 := 4#32
  let v450 : BitVec 32 := Scalar.muli v10 c4_i32_365
  let v451 : BitVec 32 := Scalar.addi c0_i32_366 v450
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_367 : BitVec 32 := 2#32
  let v452 : BitVec 32 := Scalar.muli v5 c2_i32_367
  let v453 : BitVec 32 := Scalar.addi v451 v452
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_368 : BitVec 32 := 1#32
  let v454 : BitVec 32 := Scalar.muli v8 c1_i32_368
  let v455 : BitVec 32 := Scalar.addi v453 v454
  v455.toNat
def k0_dev23 (d0 : Dev nD) : Nat :=
  let c0_i32_375 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_374 : BitVec 32 := 4#32
  let v462 : BitVec 32 := Scalar.muli v2 c4_i32_374
  let v463 : BitVec 32 := Scalar.addi c0_i32_375 v462
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_376 : BitVec 32 := 2#32
  let v464 : BitVec 32 := Scalar.muli v11 c2_i32_376
  let v465 : BitVec 32 := Scalar.addi v463 v464
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_377 : BitVec 32 := 1#32
  let v466 : BitVec 32 := Scalar.muli v8 c1_i32_377
  let v467 : BitVec 32 := Scalar.addi v465 v466
  v467.toNat
def k0_dev24 (d0 : Dev nD) : Nat :=
  let c0_i32_408 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_407 : BitVec 32 := 4#32
  let v499 : BitVec 32 := Scalar.muli v10 c4_i32_407
  let v500 : BitVec 32 := Scalar.addi c0_i32_408 v499
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_409 : BitVec 32 := 2#32
  let v501 : BitVec 32 := Scalar.muli v5 c2_i32_409
  let v502 : BitVec 32 := Scalar.addi v500 v501
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_410 : BitVec 32 := 1#32
  let v503 : BitVec 32 := Scalar.muli v8 c1_i32_410
  let v504 : BitVec 32 := Scalar.addi v502 v503
  v504.toNat
def k0_dev25 (d0 : Dev nD) : Nat :=
  let c0_i32_417 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_416 : BitVec 32 := 4#32
  let v511 : BitVec 32 := Scalar.muli v2 c4_i32_416
  let v512 : BitVec 32 := Scalar.addi c0_i32_417 v511
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_418 : BitVec 32 := 2#32
  let v513 : BitVec 32 := Scalar.muli v11 c2_i32_418
  let v514 : BitVec 32 := Scalar.addi v512 v513
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_419 : BitVec 32 := 1#32
  let v515 : BitVec 32 := Scalar.muli v8 c1_i32_419
  let v516 : BitVec 32 := Scalar.addi v514 v515
  v516.toNat
def k0_dev26 (d0 : Dev nD) : Nat :=
  let c0_i32_450 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_449 : BitVec 32 := 4#32
  let v548 : BitVec 32 := Scalar.muli v10 c4_i32_449
  let v549 : BitVec 32 := Scalar.addi c0_i32_450 v548
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_451 : BitVec 32 := 2#32
  let v550 : BitVec 32 := Scalar.muli v5 c2_i32_451
  let v551 : BitVec 32 := Scalar.addi v549 v550
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_452 : BitVec 32 := 1#32
  let v552 : BitVec 32 := Scalar.muli v8 c1_i32_452
  let v553 : BitVec 32 := Scalar.addi v551 v552
  v553.toNat
def k0_dev27 (d0 : Dev nD) : Nat :=
  let c0_i32_459 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_458 : BitVec 32 := 4#32
  let v560 : BitVec 32 := Scalar.muli v2 c4_i32_458
  let v561 : BitVec 32 := Scalar.addi c0_i32_459 v560
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_460 : BitVec 32 := 2#32
  let v562 : BitVec 32 := Scalar.muli v11 c2_i32_460
  let v563 : BitVec 32 := Scalar.addi v561 v562
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_461 : BitVec 32 := 1#32
  let v564 : BitVec 32 := Scalar.muli v8 c1_i32_461
  let v565 : BitVec 32 := Scalar.addi v563 v564
  v565.toNat
def k0_off2 (d0 : Dev nD) (c0_i32_467 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c1024_i32_466 : BitVec 32 := 1024#32
  let v572 : BitVec 32 := Scalar.muli v16 c1024_i32_466
  let v573 : BitVec 32 := Scalar.addi v572 c0_i32_467
  let c0_i32_484 : BitVec 32 := 0#32
  ![v573.toNat, 0]
def k0_dev28 (d0 : Dev nD) : Nat :=
  let c0_i32_481 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_480 : BitVec 32 := 4#32
  let v584 : BitVec 32 := Scalar.muli v2 c4_i32_480
  let v585 : BitVec 32 := Scalar.addi c0_i32_481 v584
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_482 : BitVec 32 := 2#32
  let v586 : BitVec 32 := Scalar.muli v11 c2_i32_482
  let v587 : BitVec 32 := Scalar.addi v585 v586
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_483 : BitVec 32 := 1#32
  let v588 : BitVec 32 := Scalar.muli v8 c1_i32_483
  let v589 : BitVec 32 := Scalar.addi v587 v588
  v589.toNat
def k0_dev29 (d0 : Dev nD) : Nat :=
  let c0_i32_506 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_505 : BitVec 32 := 4#32
  let v612 : BitVec 32 := Scalar.muli v2 c4_i32_505
  let v613 : BitVec 32 := Scalar.addi c0_i32_506 v612
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_507 : BitVec 32 := 2#32
  let v614 : BitVec 32 := Scalar.muli v11 c2_i32_507
  let v615 : BitVec 32 := Scalar.addi v613 v614
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_508 : BitVec 32 := 1#32
  let v616 : BitVec 32 := Scalar.muli v8 c1_i32_508
  let v617 : BitVec 32 := Scalar.addi v615 v616
  v617.toNat
def k0_dev30 (d0 : Dev nD) : Nat :=
  let c0_i32_531 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_530 : BitVec 32 := 4#32
  let v640 : BitVec 32 := Scalar.muli v2 c4_i32_530
  let v641 : BitVec 32 := Scalar.addi c0_i32_531 v640
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_532 : BitVec 32 := 2#32
  let v642 : BitVec 32 := Scalar.muli v11 c2_i32_532
  let v643 : BitVec 32 := Scalar.addi v641 v642
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_533 : BitVec 32 := 1#32
  let v644 : BitVec 32 := Scalar.muli v8 c1_i32_533
  let v645 : BitVec 32 := Scalar.addi v643 v644
  v645.toNat
def k0_dev31 (d0 : Dev nD) : Nat :=
  let c0_i32_556 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_555 : BitVec 32 := 4#32
  let v668 : BitVec 32 := Scalar.muli v2 c4_i32_555
  let v669 : BitVec 32 := Scalar.addi c0_i32_556 v668
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_557 : BitVec 32 := 2#32
  let v670 : BitVec 32 := Scalar.muli v11 c2_i32_557
  let v671 : BitVec 32 := Scalar.addi v669 v670
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_558 : BitVec 32 := 1#32
  let v672 : BitVec 32 := Scalar.muli v8 c1_i32_558
  let v673 : BitVec 32 := Scalar.addi v671 v672
  v673.toNat
def k0_off3 (d0 : Dev nD) (c0_i32_568 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c1024_i32_566 : BitVec 32 := 1024#32
  let v684 : BitVec 32 := Scalar.muli v19 c1024_i32_566
  let c512_i32_567 : BitVec 32 := 512#32
  let v685 : BitVec 32 := Scalar.addi v684 c512_i32_567
  let v686 : BitVec 32 := Scalar.addi v685 c0_i32_568
  let c0_i32_585 : BitVec 32 := 0#32
  ![v686.toNat, 0]
def k0_dev32 (d0 : Dev nD) : Nat :=
  let c0_i32_582 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_581 : BitVec 32 := 4#32
  let v697 : BitVec 32 := Scalar.muli v10 c4_i32_581
  let v698 : BitVec 32 := Scalar.addi c0_i32_582 v697
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_583 : BitVec 32 := 2#32
  let v699 : BitVec 32 := Scalar.muli v5 c2_i32_583
  let v700 : BitVec 32 := Scalar.addi v698 v699
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_584 : BitVec 32 := 1#32
  let v701 : BitVec 32 := Scalar.muli v8 c1_i32_584
  let v702 : BitVec 32 := Scalar.addi v700 v701
  v702.toNat
def k0_dev33 (d0 : Dev nD) : Nat :=
  let c0_i32_608 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_607 : BitVec 32 := 4#32
  let v726 : BitVec 32 := Scalar.muli v10 c4_i32_607
  let v727 : BitVec 32 := Scalar.addi c0_i32_608 v726
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_609 : BitVec 32 := 2#32
  let v728 : BitVec 32 := Scalar.muli v5 c2_i32_609
  let v729 : BitVec 32 := Scalar.addi v727 v728
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_610 : BitVec 32 := 1#32
  let v730 : BitVec 32 := Scalar.muli v8 c1_i32_610
  let v731 : BitVec 32 := Scalar.addi v729 v730
  v731.toNat
def k0_dev34 (d0 : Dev nD) : Nat :=
  let c0_i32_634 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_633 : BitVec 32 := 4#32
  let v755 : BitVec 32 := Scalar.muli v10 c4_i32_633
  let v756 : BitVec 32 := Scalar.addi c0_i32_634 v755
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_635 : BitVec 32 := 2#32
  let v757 : BitVec 32 := Scalar.muli v5 c2_i32_635
  let v758 : BitVec 32 := Scalar.addi v756 v757
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_636 : BitVec 32 := 1#32
  let v759 : BitVec 32 := Scalar.muli v8 c1_i32_636
  let v760 : BitVec 32 := Scalar.addi v758 v759
  v760.toNat
def k0_dev35 (d0 : Dev nD) : Nat :=
  let c0_i32_660 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_659 : BitVec 32 := 4#32
  let v784 : BitVec 32 := Scalar.muli v10 c4_i32_659
  let v785 : BitVec 32 := Scalar.addi c0_i32_660 v784
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_661 : BitVec 32 := 2#32
  let v786 : BitVec 32 := Scalar.muli v5 c2_i32_661
  let v787 : BitVec 32 := Scalar.addi v785 v786
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_662 : BitVec 32 := 1#32
  let v788 : BitVec 32 := Scalar.muli v8 c1_i32_662
  let v789 : BitVec 32 := Scalar.addi v787 v788
  v789.toNat
def k0_off4 (d0 : Dev nD) (c0_i32_672 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c1024_i32_670 : BitVec 32 := 1024#32
  let v800 : BitVec 32 := Scalar.muli v16 c1024_i32_670
  let c512_i32_671 : BitVec 32 := 512#32
  let v801 : BitVec 32 := Scalar.addi v800 c512_i32_671
  let v802 : BitVec 32 := Scalar.addi v801 c0_i32_672
  let c0_i32_679 : BitVec 32 := 0#32
  ![v802.toNat, 0]
def k0_off5 (d0 : Dev nD) (c0_i32_715 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c1024_i32_714 : BitVec 32 := 1024#32
  let v852 : BitVec 32 := Scalar.muli v19 c1024_i32_714
  let v853 : BitVec 32 := Scalar.addi v852 c0_i32_715
  let c0_i32_722 : BitVec 32 := 0#32
  ![v853.toNat, 0]
def k0_off6 (d0 : Dev nD) (c0_i32_756 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c1024_i32_754 : BitVec 32 := 1024#32
  let v900 : BitVec 32 := Scalar.muli v23 c1024_i32_754
  let c512_i32_755 : BitVec 32 := 512#32
  let v901 : BitVec 32 := Scalar.addi v900 c512_i32_755
  let v902 : BitVec 32 := Scalar.addi v901 c0_i32_756
  let c0_i32_763 : BitVec 32 := 0#32
  ![v902.toNat, 0]
def k0_off7 (d0 : Dev nD) (c0_i32_799 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c1024_i32_798 : BitVec 32 := 1024#32
  let v952 : BitVec 32 := Scalar.muli v23 c1024_i32_798
  let v953 : BitVec 32 := Scalar.addi v952 c0_i32_799
  let c0_i32_806 : BitVec 32 := 0#32
  ![v953.toNat, 0]
-- ==== ReferenceIdeal.lean ====
abbrev S8192x1024 : Shape := ⟨2, ![8192, 1024]⟩
abbrev S2x4096x1024 : Shape := ⟨3, ![2, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x4096x1024, .f32⟩
  | .hbm, ⟨2, _⟩ => ⟨S_, .f32⟩
  | .hbm, ⟨3, _⟩ => ⟨S4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Struct.lean ====
/-
The kernel's body over phases: the printed sequence of operations restated as a barrier handshake followed by loops
whose steps are parametrised by the chunk, with the equation that the printed body is that program.
-/
module

public import proofs.«01_k».proof.Proof.Gen.KernelIdeal
public import proofs.«01_k».proof.Proof.Gen.KernelIdeal.Skeleton

@[expose] public section

noncomputable section

namespace Cert.KernelIdeal.Ring

open Cert.KernelIdeal Cert.KernelIdeal.Gen
open Idealize.ShloMosaic
open Idealize.ShloMosaic.TcCoe
open Idealize.SL.Sem

variable {F : FTy → Type} [FloatOps F]

/-- Programs of the kernel. -/
abbrev KProg (F : FTy → Type) [FloatOps F] (α : Type) := Prog (TpuEff nD τ sig (Elt F) Λ₀ .tc) α

/-- A chunk of 128 rows, in either memory. -/
abbrev Chunk (sp : Space) := Memref sig .tc sp S128x1024 .f32

theorem inb1024 : ∀ (k : Fin 8) (a : Fin 2), (![128 * k.val, 0] : Fin 2 → Nat) a + S128x1024.size a ≤ S1024x1024.size a := by decide +kernel
theorem inb512 : ∀ (j : Fin 4) (a : Fin 2), (![128 * j.val, 0] : Fin 2 → Nat) a + S128x1024.size a ≤ S512x1024.size a := by decide +kernel
theorem inb8 : ∀ (k : Fin 8) (a : Fin 1), (![k.val] : Fin 1 → Nat) a + S1.size a ≤ S8.size a := by decide +kernel
theorem inb4 : ∀ (j : Fin 4) (a : Fin 1), (![j.val] : Fin 1 → Nat) a + S1.size a ≤ S4.size a := by decide +kernel

/-- Rows `128 k …` of a 1024-row scratch buffer, as a rectangle. -/
abbrev rect8 (k : Fin 8) : Rect S1024x1024 := Rect.unit (s := S1024x1024) ![128 * k.val, 0] S128x1024.size (inb1024 k)
/-- Rows `128 j …` of a 512-row scratch buffer, as a rectangle. -/
abbrev rect4 (j : Fin 4) : Rect S512x1024 := Rect.unit (s := S512x1024) ![128 * j.val, 0] S128x1024.size (inb512 j)
/-- Chunk `k` of a 1024-row scratch buffer. -/
abbrev sl8 (b : Memref sig .tc .vmem S1024x1024 .f32) (k : Fin 8) : Chunk .vmem := b.slice (rect8 k) (fun _ => rfl)
/-- Chunk `j` of a 512-row scratch buffer. -/
abbrev sl4 (b : Memref sig .tc .vmem S512x1024 .f32) (j : Fin 4) : Chunk .vmem := b.slice (rect4 j) (fun _ => rfl)
/-- Semaphore `k` of an array of eight. -/
abbrev sem8 (a : DmaSems sig S8) (k : Fin 8) : DmaSem sig :=
  ((a.slice (Rect.unit (s := S8) ![k.val] S1.size (inb8 k))).squeeze S_ squeezes_S1_S_).sem
/-- Semaphore `j` of an array of four. -/
abbrev sem4 (a : DmaSems sig S4) (j : Fin 4) : DmaSem sig :=
  ((a.slice (Rect.unit (s := S4) ![j.val] S1.size (inb4 j))).squeeze S_ squeezes_S1_S_).sem

/-! The printed row ranges of the two big buffers, per chunk. -/
abbrev pRect1 (c : Dev nD) (k : Fin 8) : Rect S4096x1024 := Rect.unit (s := S4096x1024) (k0_off1 c (BitVec.ofNat 32 (128 * k.val))) S128x1024.size (k0_off1_inb c k)
abbrev pRect2 (c : Dev nD) (j : Fin 4) : Rect S4096x1024 := Rect.unit (s := S4096x1024) (k0_off2 c (BitVec.ofNat 32 (128 * j.val))) S128x1024.size (k0_off2_inb c j)
abbrev pRect3 (c : Dev nD) (j : Fin 4) : Rect S4096x1024 := Rect.unit (s := S4096x1024) (k0_off3 c (BitVec.ofNat 32 (128 * j.val))) S128x1024.size (k0_off3_inb c j)
abbrev pRect4 (c : Dev nD) (j : Fin 4) : Rect S4096x1024 := Rect.unit (s := S4096x1024) (k0_off4 c (BitVec.ofNat 32 (128 * j.val))) S128x1024.size (k0_off4_inb c j)
abbrev pRect5 (c : Dev nD) (j : Fin 4) : Rect S4096x1024 := Rect.unit (s := S4096x1024) (k0_off5 c (BitVec.ofNat 32 (128 * j.val))) S128x1024.size (k0_off5_inb c j)
abbrev pRect6 (c : Dev nD) (j : Fin 4) : Rect S4096x1024 := Rect.unit (s := S4096x1024) (k0_off6 c (BitVec.ofNat 32 (128 * j.val))) S128x1024.size (k0_off6_inb c j)
abbrev pRect7 (c : Dev nD) (j : Fin 4) : Rect S4096x1024 := Rect.unit (s := S4096x1024) (k0_off7 c (BitVec.ofNat 32 (128 * j.val))) S128x1024.size (k0_off7_inb c j)
abbrev xB : Memref sig .tc .hbm S4096x1024 .f32 := Memref.whole main_arg0
abbrev oB : Memref sig .tc .hbm S4096x1024 .f32 := Memref.whole main_v1
abbrev qB : Memref sig .tc .vmem S1024x1024 .f32 := Memref.whole cc0_scratch0
abbrev mB : Memref sig .tc .vmem S1024x1024 .f32 := Memref.whole cc0_scratch1
abbrev gxB : Memref sig .tc .vmem S512x1024 .f32 := Memref.whole cc0_scratch2
abbrev gyB : Memref sig .tc .vmem S512x1024 .f32 := Memref.whole cc0_scratch3
abbrev bigSl (b : Memref sig .tc .hbm S4096x1024 .f32) (o : Fin 2 → Nat) (h : ∀ a, o a + S128x1024.size a ≤ S4096x1024.size a) : Chunk .hbm :=
  b.slice (Rect.unit (s := S4096x1024) o S128x1024.size h) (fun _ => rfl)

/-! The three neighbours, as the kernel computes them. -/
abbrev pz (c : Dev nD) : Dev nD := ⟨k0_dev4 c, k0_dev4_lt c⟩
abbrev px (c : Dev nD) : Dev nD := ⟨k0_dev12 c, k0_dev12_lt c⟩
abbrev py (c : Dev nD) : Dev nD := ⟨k0_dev13 c, k0_dev13_lt c⟩

/-- One local copy of a chunk. -/
def lcopy {sp sp' : Space} (src : Chunk sp) (dst : Chunk sp') (sem : DmaSem sig)
    (h : DmaTarget.Typed (nD := nD) (τ := τ) (p := .tc) sp (.dma sem) (.here dst)) : KProg F PUnit :=
  Prog.lift (.enqueueDma src (.here dst) (.dma sem) (View.wordExact_bits rfl) (View.wordExact_bits rfl) h)

/-- One addressed copy of a chunk to device `n`. -/
def rcopy {sp sp' : Space} (n : Dev nD) (src : Chunk sp) (dst : Chunk sp') (sS sR : DmaSem sig) (h0 : dst.view.ref.isScScratch = false)
    (h : DmaTarget.Typed (nD := nD) (τ := τ) (p := .tc) sp (.dma sR) (.remote (Dev.tc n : Thread nD τ) dst (.dma sS) h0)) : KProg F PUnit :=
  Prog.lift (.enqueueDma src (.remote (Dev.tc n : Thread nD τ) dst (.dma sS) h0) (.dma sR) (View.wordExact_bits rfl) (View.wordExact_bits rfl) h)

/-- One wait for a chunk's copy. -/
def dwait {sp sp' : Space} (sem : DmaSem sig) (src : Chunk sp) (dst : Chunk sp') : KProg F PUnit :=
  Prog.lift (.waitDma2 sem src dst (View.wordExact_bits rfl) (View.wordExact_bits rfl))

/-- Four steps in order. -/
def seq4 (f : Fin 4 → KProg F PUnit) : KProg F PUnit := do f 0; f 1; f 2; f 3
/-- Eight steps in order. -/
def seq8 (f : Fin 8 → KProg F PUnit) : KProg F PUnit := do f 0; f 1; f 2; f 3; f 4; f 5; f 6; f 7

/-- Chunk `k` of the quarter goes to the z neighbour's landing buffer and to the local copy. -/
def zStep (c : Dev nD) (k : Fin 8) : KProg F PUnit := do
  rcopy (pz c) (bigSl xB _ (k0_off1_inb c k)) (sl8 mB k) (sem8 cc0_scratch4 k) (sem8 cc0_scratch5 k) rfl ⟨⟨rfl, Or.inl rfl⟩, trivial⟩
  lcopy (bigSl xB _ (k0_off1_inb c k)) (sl8 qB k) (sem8 cc0_scratch16 k) ⟨Or.inl rfl, trivial⟩

/-- The two summands of chunk `k` are awaited and the sum stored over the landed one; the copy to the result starts. -/
def addStep (c : Dev nD) (k : Fin 8) : KProg F PUnit := do
  dwait (sem8 cc0_scratch16 k) (bigSl xB _ (k0_off1_inb c k)) (sl8 qB k)
  dwait (sem8 cc0_scratch5 k) (bigSl xB _ (k0_off1_inb c k)) (sl8 mB k)
  let a : Vec F S128x1024 .f32 ← Prog.lift (.load qB (rect8 k).toLoadRect (View.loadsAt_vmem h_S128x1024))
  let b : Vec F S128x1024 .f32 ← Prog.lift (.load mB (rect8 k).toLoadRect (View.loadsAt_vmem h_S128x1024))
  let _ : Vec F S128x1024 .f32 ← Prog.lift (.load mB (rect8 k).toLoadRect (View.loadsAt_vmem h_S128x1024))
  Prog.lift (.store mB (rect8 k) (k0_pay1 a b) Finset.univ (View.stores_vmem_bits_univ h_S128x1024 rfl) (.inl rfl))
  lcopy (sl8 mB k) (bigSl oB _ (k0_off1_inb c k)) (sem8 cc0_scratch17 k) ⟨Or.inl rfl, trivial⟩

/-- A chunk of the upper half: its sum goes to the x neighbour's relay buffer and the y neighbour's result. -/
def loStep (c : Dev nD) (j : Fin 4) : KProg F PUnit := do
  addStep c (Fin.castLE (by decide) j)
  rcopy (px c) (sl8 mB (Fin.castLE (by decide) j)) (sl4 gxB j) (sem8 cc0_scratch6 (Fin.castLE (by decide) j)) (sem4 cc0_scratch8 j) rfl ⟨⟨rfl, Or.inl rfl⟩, trivial⟩
  rcopy (py c) (sl8 mB (Fin.castLE (by decide) j)) (bigSl oB _ (k0_off1_inb c (Fin.castLE (by decide) j))) (sem8 cc0_scratch7 (Fin.castLE (by decide) j)) (sem4 cc0_scratch10 j) rfl ⟨⟨rfl, Or.inl rfl⟩, trivial⟩

/-- A chunk of the lower half: its sum goes to the x neighbour's result and the y neighbour's relay buffer. -/
def hiStep (c : Dev nD) (j : Fin 4) : KProg F PUnit := do
  addStep c (Fin.natAdd 4 j)
  rcopy (px c) (sl8 mB (Fin.natAdd 4 j)) (bigSl oB _ (k0_off1_inb c (Fin.natAdd 4 j))) (sem8 cc0_scratch6 (Fin.natAdd 4 j)) (sem4 cc0_scratch9 j) rfl ⟨⟨rfl, Or.inl rfl⟩, trivial⟩
  rcopy (py c) (sl8 mB (Fin.natAdd 4 j)) (sl4 gyB j) (sem8 cc0_scratch7 (Fin.natAdd 4 j)) (sem4 cc0_scratch11 j) rfl ⟨⟨rfl, Or.inl rfl⟩, trivial⟩

/-- A relayed chunk from the x neighbour goes on to the y neighbour's result and into the own one. -/
def fyStep (c : Dev nD) (j : Fin 4) : KProg F PUnit := do
  dwait (sem4 cc0_scratch8 j) (sl4 gxB j) (sl4 gxB j)
  rcopy (py c) (sl4 gxB j) (bigSl oB _ (k0_off2_inb c j)) (sem4 cc0_scratch13 j) (sem4 cc0_scratch15 j) rfl ⟨⟨rfl, Or.inl rfl⟩, trivial⟩
  lcopy (sl4 gxB j) (bigSl oB _ (k0_off2_inb c j)) (sem4 cc0_scratch18 j) ⟨Or.inl rfl, trivial⟩

/-- A relayed chunk from the y neighbour goes on to the x neighbour's result and into the own one. -/
def fxStep (c : Dev nD) (j : Fin 4) : KProg F PUnit := do
  dwait (sem4 cc0_scratch11 j) (sl4 gyB j) (sl4 gyB j)
  rcopy (px c) (sl4 gyB j) (bigSl oB _ (k0_off3_inb c j)) (sem4 cc0_scratch12 j) (sem4 cc0_scratch14 j) rfl ⟨⟨rfl, Or.inl rfl⟩, trivial⟩
  lcopy (sl4 gyB j) (bigSl oB _ (k0_off3_inb c j)) (sem4 cc0_scratch19 j) ⟨Or.inl rfl, trivial⟩

/-- The waits for chunk `j`'s copies out of a relay buffer. -/
def relayDrain (c : Dev nD) (j : Fin 4) : KProg F PUnit := do
  dwait (sem4 cc0_scratch12 j) (bigSl oB _ (k0_off3_inb c j)) (sl4 gyB j)
  dwait (sem4 cc0_scratch13 j) (bigSl oB _ (k0_off2_inb c j)) (sl4 gxB j)
  dwait (sem4 cc0_scratch18 j) (sl4 gxB j) (bigSl oB _ (k0_off2_inb c j))
  dwait (sem4 cc0_scratch19 j) (sl4 gyB j) (bigSl oB _ (k0_off3_inb c j))

/-- The waits for the four copies of an upper-half chunk. -/
def loDrain (c : Dev nD) (j : Fin 4) : KProg F PUnit := do
  dwait (sem8 cc0_scratch4 (Fin.castLE (by decide) j)) (sl8 mB (Fin.castLE (by decide) j)) (bigSl xB _ (k0_off1_inb c (Fin.castLE (by decide) j)))
  dwait (sem8 cc0_scratch6 (Fin.castLE (by decide) j)) (sl4 gxB j) (sl8 mB (Fin.castLE (by decide) j))
  dwait (sem8 cc0_scratch7 (Fin.castLE (by decide) j)) (bigSl oB _ (k0_off1_inb c (Fin.castLE (by decide) j))) (sl8 mB (Fin.castLE (by decide) j))
  dwait (sem8 cc0_scratch17 (Fin.castLE (by decide) j)) (sl8 mB (Fin.castLE (by decide) j)) (bigSl oB _ (k0_off1_inb c (Fin.castLE (by decide) j)))

/-- The waits for the four copies of a lower-half chunk. -/
def hiDrain (c : Dev nD) (j : Fin 4) : KProg F PUnit := do
  dwait (sem8 cc0_scratch4 (Fin.natAdd 4 j)) (sl8 mB (Fin.natAdd 4 j)) (bigSl xB _ (k0_off1_inb c (Fin.natAdd 4 j)))
  dwait (sem8 cc0_scratch6 (Fin.natAdd 4 j)) (bigSl oB _ (k0_off1_inb c (Fin.natAdd 4 j))) (sl8 mB (Fin.natAdd 4 j))
  dwait (sem8 cc0_scratch7 (Fin.natAdd 4 j)) (sl4 gyB j) (sl8 mB (Fin.natAdd 4 j))
  dwait (sem8 cc0_scratch17 (Fin.natAdd 4 j)) (sl8 mB (Fin.natAdd 4 j)) (bigSl oB _ (k0_off1_inb c (Fin.natAdd 4 j)))

/-- The runtime's barrier semaphore. -/
abbrev barS : Sem sig := (SemArray.scalar (sig.barrier 0 rfl) : Sems sig S_).sem

/-- The handshake: a signal to each neighbour and a wait for the three of one's own. -/
def handshake (c : Dev nD) : KProg F PUnit := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semWaitWord barS 3#32

/-- The exchange after the handshake. -/
def exchange (c : Dev nD) : KProg F PUnit := do
  seq8 (zStep c)
  seq4 (loStep c)
  seq4 (hiStep c)
  seq4 (fyStep c)
  seq4 (fxStep c)
  seq4 fun j => dwait (sem4 cc0_scratch9 j) (bigSl oB _ (k0_off4_inb c j)) (bigSl oB _ (k0_off4_inb c j))
  seq4 fun j => dwait (sem4 cc0_scratch10 j) (bigSl oB _ (k0_off5_inb c j)) (bigSl oB _ (k0_off5_inb c j))
  seq4 fun j => dwait (sem4 cc0_scratch14 j) (bigSl oB _ (k0_off6_inb c j)) (bigSl oB _ (k0_off6_inb c j))
  seq4 fun j => dwait (sem4 cc0_scratch15 j) (bigSl oB _ (k0_off7_inb c j)) (bigSl oB _ (k0_off7_inb c j))
  seq4 (loDrain c)
  seq4 (hiDrain c)
  seq4 (relayDrain c)

/-- The body over phases. -/
def phased : KProg F PUnit := do
  let c : Dev nD ← Prog.lift .deviceId
  handshake c
  exchange c

set_option maxRecDepth 100000 in
set_option maxHeartbeats 4000000 in
/-- The printed body is the phases in order. -/
theorem body_eq :
    cc0_body (F := F) xB (Memref.isWhole_whole _) oB (Memref.isWhole_whole _) qB (Memref.isWhole_whole _) mB (Memref.isWhole_whole _)
      gxB (Memref.isWhole_whole _) gyB (Memref.isWhole_whole _) cc0_scratch4 cc0_scratch5 cc0_scratch6 cc0_scratch7 cc0_scratch8 cc0_scratch9
      cc0_scratch10 cc0_scratch11 cc0_scratch12 cc0_scratch13 cc0_scratch14 cc0_scratch15 cc0_scratch16 cc0_scratch17 cc0_scratch18 cc0_scratch19
      = phased := by
  rfl

end Cert.KernelIdeal.Ring

end
-- ==== Proof.Sched.lean ====
/-
The mesh, the cells of the exchange, what each holds, and the schedule of their single round.
-/
module

public import proofs.«01_k».proof.Proof.Struct
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh -/

set_option backward.proofsInPublic true in
/-- The z neighbour. -/
def zn (c : Dev nD) : Dev nD := ⟨(4 * (c.val / 4) + 2 * ((c.val / 2) % 2) + 1) - (c.val % 2), by revert c; decide⟩
set_option backward.proofsInPublic true in
/-- The x neighbour. -/
def xn (c : Dev nD) : Dev nD := ⟨(2 * ((c.val / 2) % 2) + (c.val % 2) + 4) - 4 * (c.val / 4), by revert c; decide⟩
set_option backward.proofsInPublic true in
/-- The y neighbour. -/
def yn (c : Dev nD) : Dev nD := ⟨(4 * (c.val / 4) + (c.val % 2) + 2) - 2 * ((c.val / 2) % 2), by revert c; decide⟩
set_option backward.proofsInPublic true in
/-- The quarter of the rows a device reduces. -/
def qm (c : Dev nD) : Fin 4 := ⟨c.val / 2, by revert c; decide⟩

theorem zn_zn (c : Dev nD) : zn (zn c) = c := by revert c; decide
theorem xn_xn (c : Dev nD) : xn (xn c) = c := by revert c; decide
theorem yn_yn (c : Dev nD) : yn (yn c) = c := by revert c; decide
theorem xn_yn (c : Dev nD) : xn (yn c) = yn (xn c) := by revert c; decide
theorem qm_zn (c : Dev nD) : qm (zn c) = qm c := by revert c; decide

theorem dev1 (c : Dev nD) : (⟨k0_dev1 c, k0_dev1_lt c⟩ : Dev nD) = zn c := Fin.ext (k0_dev1_eq c)
theorem dev2 (c : Dev nD) : (⟨k0_dev2 c, k0_dev2_lt c⟩ : Dev nD) = xn c := Fin.ext (k0_dev2_eq c)
theorem dev3 (c : Dev nD) : (⟨k0_dev3 c, k0_dev3_lt c⟩ : Dev nD) = yn c := Fin.ext (k0_dev3_eq c)
theorem pz_eq (c : Dev nD) : pz c = zn c := Fin.ext (k0_dev4_eq c)
theorem px_eq (c : Dev nD) : px c = xn c := Fin.ext (k0_dev12_eq c)
theorem py_eq (c : Dev nD) : py c = yn c := Fin.ext (k0_dev13_eq c)

/-! ## Chunks of the big buffers -/

theorem inbBig : ∀ (q : Fin 4) (k : Fin 8) (a : Fin 2), (![1024 * q.val + 128 * k.val, 0] : Fin 2 → Nat) a + S128x1024.size a ≤ S4096x1024.size a := by
  decide +kernel

/-- Rows of chunk `k` of quarter `q`. -/
abbrev rectB (t : Fin 4 × Fin 8) : Rect S4096x1024 := Rect.unit (s := S4096x1024) ![1024 * t.1.val + 128 * t.2.val, 0] S128x1024.size (inbBig t.1 t.2)
/-- Chunk `k` of quarter `q` of the operand. -/
abbrev xC (q : Fin 4) (k : Fin 8) : Chunk .hbm := xB.slice (rectB (q, k)) (fun _ => rfl)
/-- Chunk `k` of quarter `q` of the result. -/
abbrev oC (q : Fin 4) (k : Fin 8) : Chunk .hbm := oB.slice (rectB (q, k)) (fun _ => rfl)
/-- A chunk number of the upper half. -/
abbrev lo (j : Fin 4) : Fin 8 := Fin.castLE (by decide) j
/-- A chunk number of the lower half. -/
abbrev hi (j : Fin 4) : Fin 8 := Fin.natAdd 4 j

theorem bigSl_eq (b : Memref sig .tc .hbm S4096x1024 .f32) (o : Fin 2 → Nat) (h : ∀ a, o a + S128x1024.size a ≤ S4096x1024.size a) (q : Fin 4) (k : Fin 8)
    (e : o = ![1024 * q.val + 128 * k.val, 0]) : bigSl b o h = b.slice (rectB (q, k)) (fun _ => rfl) := by
  subst e; rfl

theorem off1 (b : Memref sig .tc .hbm S4096x1024 .f32) (c : Dev nD) (k : Fin 8) : bigSl b _ (k0_off1_inb c k) = b.slice (rectB (qm c, k)) (fun _ => rfl) :=
  bigSl_eq b _ _ _ _ ((k0_off1_eq c k).trans (by revert c k; decide +kernel))
theorem off2 (b : Memref sig .tc .hbm S4096x1024 .f32) (c : Dev nD) (j : Fin 4) : bigSl b _ (k0_off2_inb c j) = b.slice (rectB (qm (xn c), lo j)) (fun _ => rfl) :=
  bigSl_eq b _ _ _ _ ((k0_off2_eq c j).trans (by revert c j; decide +kernel))
theorem off3 (b : Memref sig .tc .hbm S4096x1024 .f32) (c : Dev nD) (j : Fin 4) : bigSl b _ (k0_off3_inb c j) = b.slice (rectB (qm (yn c), hi j)) (fun _ => rfl) :=
  bigSl_eq b _ _ _ _ ((k0_off3_eq c j).trans (by revert c j; decide +kernel))
theorem off4 (b : Memref sig .tc .hbm S4096x1024 .f32) (c : Dev nD) (j : Fin 4) : bigSl b _ (k0_off4_inb c j) = b.slice (rectB (qm (xn c), hi j)) (fun _ => rfl) :=
  bigSl_eq b _ _ _ _ ((k0_off4_eq c j).trans (by revert c j; decide +kernel))
theorem off5 (b : Memref sig .tc .hbm S4096x1024 .f32) (c : Dev nD) (j : Fin 4) : bigSl b _ (k0_off5_inb c j) = b.slice (rectB (qm (yn c), lo j)) (fun _ => rfl) :=
  bigSl_eq b _ _ _ _ ((k0_off5_eq c j).trans (by revert c j; decide +kernel))
theorem off6 (b : Memref sig .tc .hbm S4096x1024 .f32) (c : Dev nD) (j : Fin 4) : bigSl b _ (k0_off6_inb c j) = b.slice (rectB (qm (yn (xn c)), hi j)) (fun _ => rfl) :=
  bigSl_eq b _ _ _ _ ((k0_off6_eq c j).trans (by revert c j; decide +kernel))
theorem off7 (b : Memref sig .tc .hbm S4096x1024 .f32) (c : Dev nD) (j : Fin 4) : bigSl b _ (k0_off7_inb c j) = b.slice (rectB (qm (yn (xn c)), lo j)) (fun _ => rfl) :=
  bigSl_eq b _ _ _ _ ((k0_off7_eq c j).trans (by revert c j; decide +kernel))

/-! ## The cells -/

/-- The transfers' semaphores: out over z and in; out over x, y; in for the relay buffers and the results over x and y;
    the relays out and in; the four kinds of local copies. -/
inductive S : Type
  | zs (k : Fin 8) | zr (k : Fin 8) | xs (k : Fin 8) | ys (k : Fin 8) | lin (k : Fin 8) | lred (k : Fin 8)
  | xg (j : Fin 4) | xo (j : Fin 4) | yo (j : Fin 4) | yg (j : Fin 4)
  | fxs (j : Fin 4) | fys (j : Fin 4) | fxr (j : Fin 4) | fyr (j : Fin 4) | lgx (j : Fin 4) | lgy (j : Fin 4)
  deriving DecidableEq

/-- The names as six families of eight and ten of four. -/
def S.equiv : (Fin 6 × Fin 8) ⊕ (Fin 10 × Fin 4) ≃ S where
  toFun
    | .inl (0, k) => .zs k | .inl (1, k) => .zr k | .inl (2, k) => .xs k | .inl (3, k) => .ys k | .inl (4, k) => .lin k | .inl (5, k) => .lred k
    | .inr (0, j) => .xg j | .inr (1, j) => .xo j | .inr (2, j) => .yo j | .inr (3, j) => .yg j | .inr (4, j) => .fxs j | .inr (5, j) => .fys j
    | .inr (6, j) => .fxr j | .inr (7, j) => .fyr j | .inr (8, j) => .lgx j | .inr (9, j) => .lgy j
  invFun
    | .zs k => .inl (0, k) | .zr k => .inl (1, k) | .xs k => .inl (2, k) | .ys k => .inl (3, k) | .lin k => .inl (4, k) | .lred k => .inl (5, k)
    | .xg j => .inr (0, j) | .xo j => .inr (1, j) | .yo j => .inr (2, j) | .yg j => .inr (3, j) | .fxs j => .inr (4, j) | .fys j => .inr (5, j)
    | .fxr j => .inr (6, j) | .fyr j => .inr (7, j) | .lgx j => .inr (8, j) | .lgy j => .inr (9, j)
  left_inv := by decide +kernel
  right_inv := by rintro (_ | _ | _ | _ | _ | _ | _ | _ | _ | _ | _ | _ | _ | _ | _ | _) <;> rfl

instance : Fintype S := Fintype.ofEquiv _ S.equiv

/-- The semaphore of a name. -/
def S.sem : S → DmaSem sig
  | .zs k => sem8 cc0_scratch4 k | .zr k => sem8 cc0_scratch5 k | .xs k => sem8 cc0_scratch6 k | .ys k => sem8 cc0_scratch7 k
  | .lin k => sem8 cc0_scratch16 k | .lred k => sem8 cc0_scratch17 k
  | .xg j => sem4 cc0_scratch8 j | .xo j => sem4 cc0_scratch9 j | .yo j => sem4 cc0_scratch10 j | .yg j => sem4 cc0_scratch11 j
  | .fxs j => sem4 cc0_scratch12 j | .fys j => sem4 cc0_scratch13 j | .fxr j => sem4 cc0_scratch14 j | .fyr j => sem4 cc0_scratch15 j
  | .lgx j => sem4 cc0_scratch18 j | .lgy j => sem4 cc0_scratch19 j

/-- The position of a name's semaphore. -/
def S.num : S → ℕ
  | .zs k => k | .zr k => 8 + k | .xs k => 16 + k | .ys k => 24 + k | .lin k => 64 + k | .lred k => 72 + k
  | .xg j => 32 + j | .xo j => 36 + j | .yo j => 40 + j | .yg j => 44 + j | .fxs j => 48 + j | .fys j => 52 + j | .fxr j => 56 + j | .fyr j => 60 + j
  | .lgx j => 80 + j | .lgy j => 84 + j

theorem S.sem_val : ∀ s : S, s.sem.val = s.num := by decide +kernel
theorem S.num_inj : ∀ s s' : S, s.num = s'.num → s = s' := by decide +kernel
theorem S.sem_inj : Function.Injective S.sem := fun s s' h => S.num_inj s s' (by rw [← S.sem_val, ← S.sem_val, h])

/-- The step at which a device's send pays an arrival semaphore; from `32` on for the others. -/
def S.ord : S → ℕ
  | .zr k => k | .xg j => 8 + 2 * j | .yo j => 8 + 2 * j + 1 | .xo j => 16 + 2 * j | .yg j => 16 + 2 * j + 1 | .fyr j => 24 + j | .fxr j => 28 + j
  | _ => 32

theorem S.ord_inj : ∀ s s' : S, s.ord < 32 → s.ord = s'.ord → s = s' := by decide +kernel

/-- The device whose cell a device's operation on a name pays. -/
def tgt (c : Dev nD) : S → Dev nD
  | .zr _ => zn c | .xg _ => xn c | .xo _ => xn c | .fxr _ => xn c | .yo _ => yn c | .yg _ => yn c | .fyr _ => yn c
  | _ => c

theorem tgt_tgt (c : Dev nD) (s : S) : tgt (tgt c s) s = c := by
  cases s <;> first | rfl | exact zn_zn c | exact xn_xn c | exact yn_yn c

/-- The neighbour whose barrier duty `d` is a device's. -/
def bnb (c : Dev nD) : Fin 3 → Dev nD
  | 0 => zn c | 1 => xn c | 2 => yn c

theorem bnb_bnb (c : Dev nD) (d : Fin 3) : bnb (bnb c d) d = c := by
  fin_cases d <;> first | exact zn_zn c | exact xn_xn c | exact yn_yn c

/-- The semaphores of the exchange: the barrier and the transfers'. -/
def csem : Option S → SemLoc sig
  | none => .reg barS
  | some s => .dma s.sem

theorem csem_inj : Function.Injective csem := by
  rintro (_ | s) (_ | s') h
  · rfl
  · cases h
  · cases h
  · rw [S.sem_inj (SemLoc.dma.inj h)]

abbrev cellAt (p : Dev nD × Option S) : GSem nD τ sig := ((p.1 : Thread nD τ), csem p.2)
abbrev cell (c : Dev nD) (s : S) : GSem nD τ sig := cellAt (c, some s)
abbrev bar (c : Dev nD) : GSem nD τ sig := cellAt (c, none)

theorem cellAt_inj : Function.Injective cellAt := by
  rintro ⟨c, i⟩ ⟨c', i'⟩ h
  have h1 : c = c' := congrArg (fun g : GSem nD τ sig => g.1.1) h
  subst h1
  rw [show i = i' from csem_inj (congrArg Prod.snd h)]

open Classical in
/-- The name of a semaphore. -/
def dec (sm : SemLoc sig) : Option (Option S) := if h : ∃ i, csem i = sm then some h.choose else none

theorem dec_csem (i : Option S) : dec (csem i) = some i := by
  have h : ∃ i', csem i' = csem i := ⟨i, rfl⟩
  unfold dec; rw [dif_pos h, csem_inj h.choose_spec]

/-- The credit of a chunk's transfer. -/
abbrev N : ℕ := (sl8 mB 0).view.dmaCredit
theorem N_pos : 0 < N := View.dmaCredit_pos _ (by decide)

/-! ## Contents -/

variable (m : (ℓ : Loc nD τ sig) → Buf (Elt F) ℓ)

/-- A chunk of a device's operand. -/
def xv (c : Dev nD) (q : Fin 4) (k : Fin 8) : S128x1024.Idx → Elt F .f32 := fun j => m ((c : Thread nD τ).loc main_arg0) ((rectB (q, k)).emb j)
/-- The sum a device makes of chunk `k` of its quarter. -/
def red (c : Dev nD) (k : Fin 8) : S128x1024.Idx → Elt F .f32 := k0_pay1 (xv m c (qm c) k) (xv m (zn c) (qm c) k)

/-- A device's share of a chunk at given contents. -/
abbrev own (c : Dev nD) {sp : Space} (b : Chunk sp) (q : PosShare TreeShare) (X : S128x1024.Idx → Elt F .f32) : sProp 𝕄 := owns (c : Thread nD τ) b q X
/-- A device's chunk at some contents. -/
def anyOwn (F : FTy → Type) [FloatOps F] (c : Dev nD) {sp : Space} (b : Chunk sp) : sProp (MT nD τ sig Unit (Elt F) ℕ UU ℕ) := iprop(∃ X, own c b fullShare X)

instance anyOwn_storable (c : Dev nD) {sp : Space} (b : Chunk sp) : BI.Storable (upEmb : UEmb _ 𝕄) (anyOwn F c b) := by unfold anyOwn; infer_instance

abbrev shA : PosShare TreeShare := fullShare.left
abbrev shB : PosShare TreeShare := fullShare.right
abbrev shC : PosShare TreeShare := fullShare.right.left
abbrev shD : PosShare TreeShare := fullShare.right.right

/-- What the arrival of a transfer hands the device waiting on the name. -/
def pay (c : Dev nD) : S → sProp 𝕄
  | .zs k => own c (xC (qm c) k) shA (xv m c (qm c) k)
  | .lin k => iprop(own c (sl8 qB k) fullShare (xv m c (qm c) k) ∗ own c (xC (qm c) k) shB (xv m c (qm c) k))
  | .zr k => own c (sl8 mB k) fullShare (xv m (zn c) (qm c) k)
  | .lred k => iprop(own c (oC (qm c) k) fullShare (red m c k) ∗ own c (sl8 mB k) shA (red m c k))
  | .xs k => own c (sl8 mB k) shC (red m c k)
  | .ys k => own c (sl8 mB k) shD (red m c k)
  | .xg j => own c (sl4 gxB j) fullShare (red m (xn c) (lo j))
  | .xo j => own c (oC (qm (xn c)) (hi j)) fullShare (red m (xn c) (hi j))
  | .yo j => own c (oC (qm (yn c)) (lo j)) fullShare (red m (yn c) (lo j))
  | .yg j => own c (sl4 gyB j) fullShare (red m (yn c) (hi j))
  | .fys j => own c (sl4 gxB j) shA (red m (xn c) (lo j))
  | .lgx j => iprop(own c (oC (qm (xn c)) (lo j)) fullShare (red m (xn c) (lo j)) ∗ own c (sl4 gxB j) shB (red m (xn c) (lo j)))
  | .fxs j => own c (sl4 gyB j) shA (red m (yn c) (hi j))
  | .lgy j => iprop(own c (oC (qm (yn c)) (hi j)) fullShare (red m (yn c) (hi j)) ∗ own c (sl4 gyB j) shB (red m (yn c) (hi j)))
  | .fyr j => own c (oC (qm (yn (xn c))) (lo j)) fullShare (red m (yn (xn c)) (lo j))
  | .fxr j => own c (oC (qm (yn (xn c))) (hi j)) fullShare (red m (yn (xn c)) (hi j))

instance pay_storable (c : Dev nD) (s : S) : BI.Storable (upEmb : UEmb _ 𝕄) (pay m c s) := by
  cases s <;> (unfold pay own; infer_instance)

/-- What the barrier's duties hand a device: each neighbour's buffers it is to write. -/
def barPay (F : FTy → Type) [FloatOps F] (c : Dev nD) : Fin 3 → sProp (MT nD τ sig Unit (Elt F) ℕ UU ℕ)
  | 0 => bigSep Finset.univ fun k : Fin 8 => anyOwn F (zn c) (sl8 mB k)
  | 1 => bigSep Finset.univ fun j : Fin 4 => iprop(anyOwn F (xn c) (sl4 gxB j) ∗ anyOwn F (xn c) (oC (qm c) (hi j)) ∗ anyOwn F (xn c) (oC (qm (yn c)) (hi j)))
  | 2 => bigSep Finset.univ fun j : Fin 4 => iprop(anyOwn F (yn c) (sl4 gyB j) ∗ anyOwn F (yn c) (oC (qm c) (lo j)) ∗ anyOwn F (yn c) (oC (qm (xn c)) (lo j)))

instance barPay_storable (c : Dev nD) (d : Fin 3) : BI.Storable (upEmb : UEmb _ 𝕄) (barPay F c d) := by
  fin_cases d <;> (unfold barPay; infer_instance)

/-! ## The schedule -/

/-- One round: three duties of a unit on each barrier, one of a chunk's credit on each transfer's cell. -/
def rd : Rounds.Schedule (GSem nD τ sig) (Fin 3) 𝕄 where
  duties g r := if r = 0 ∧ g.1.2 = .tc then (match dec g.2 with | some none => Finset.univ | some (some _) => {0} | none => ∅) else ∅
  unitless _ := False
  amount g _ _ := match dec g.2 with | some none => 1 | _ => N
  payload g _ d := match dec g.2 with | some none => barPay F g.1.1 d | some (some s) => pay m g.1.1 s | none => iprop(emp)
  amount_pos g _ _ _ := by
    split
    · exact Nat.one_pos
    · exact N_pos

instance rd_storable (g : GSem nD τ sig) (r : ℕ) (d : Fin 3) : BI.Storable (upEmb : UEmb _ 𝕄) ((rd (F := F) m).payload g r d) := by
  show BI.Storable upEmb (match dec g.2 with | some none => barPay F g.1.1 d | some (some s) => pay m g.1.1 s | none => iprop(emp))
  split <;> infer_instance

theorem duties_bar (c : Dev nD) : (rd (F := F) m).duties (bar c) 0 = Finset.univ := by
  dsimp only [rd]; rw [if_pos ⟨rfl, rfl⟩, dec_csem]
theorem duties_cell (c : Dev nD) (s : S) : (rd (F := F) m).duties (cell c s) 0 = {0} := by
  dsimp only [rd]; rw [if_pos ⟨rfl, rfl⟩, dec_csem]
theorem duties_later (g : GSem nD τ sig) : ∀ r, 1 ≤ r → (rd (F := F) m).duties g r = ∅ :=
  fun r hr => by dsimp only [rd]; exact if_neg fun h => by omega
theorem amount_bar (c : Dev nD) (d : Fin 3) : (rd (F := F) m).amount (bar c) 0 d = 1 := by dsimp only [rd]; rw [dec_csem]
theorem amount_cell (c : Dev nD) (s : S) (d : Fin 3) : (rd (F := F) m).amount (cell c s) 0 d = N := by dsimp only [rd]; rw [dec_csem]
theorem expect_bar (c : Dev nD) : (rd (F := F) m).expect (bar c) 0 = 3 := by
  unfold Schedule.expect Schedule.amountOf
  rw [duties_bar, Finset.sum_congr rfl fun d _ => amount_bar m c d, Finset.sum_const, Finset.card_univ, Fintype.card_fin, smul_eq_mul]
theorem expect_cell (c : Dev nD) (s : S) : (rd (F := F) m).expect (cell c s) 0 = N := by
  unfold Schedule.expect Schedule.amountOf; rw [duties_cell, Finset.sum_singleton, amount_cell]
theorem payload_bar (c : Dev nD) (d : Fin 3) : (rd (F := F) m).payload (bar c) 0 d = barPay F c d := by dsimp only [rd]; rw [dec_csem]
theorem payload_cell (c : Dev nD) (s : S) (d : Fin 3) : (rd (F := F) m).payload (cell c s) 0 d = pay m c s := by dsimp only [rd]; rw [dec_csem]
theorem rest_bar (c : Dev nD) : bigSep ((rd (F := F) m).duties (bar c) 0 \ ∅) (fun d => (rd (F := F) m).payload (bar c) 0 d)
    = iprop(barPay F c 0 ∗ barPay F c 1 ∗ barPay F c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_cell (c : Dev nD) (s : S) : bigSep ((rd (F := F) m).duties (cell c s) 0 \ ∅) (fun d => (rd (F := F) m).payload (cell c s) 0 d) = pay m c s := by
  rw [Finset.sdiff_empty, duties_cell, bigSep_singleton, payload_cell]

/-! ## Debts and levels -/

/-- What a device still owes from step `t` on. -/
def owed (c : Dev nD) (t : ℕ) : CellTallies nD τ sig Unit :=
  ∑ s ∈ Finset.univ.filter (fun s : S => t ≤ s.ord ∧ s.ord < 32), tallyAt (cell (tgt c s) s) () N

theorem owed_peel (c : Dev nD) (s : S) (h : s.ord < 32) : owed c s.ord = owed c (s.ord + 1) + tallyAt (cell (tgt c s) s) () N := by
  unfold owed
  have e : Finset.univ.filter (fun s' : S => s.ord ≤ s'.ord ∧ s'.ord < 32) = insert s (Finset.univ.filter (fun s' : S => s.ord + 1 ≤ s'.ord ∧ s'.ord < 32)) := by
    ext s'
    simp only [Finset.mem_filter, Finset.mem_univ, true_and, Finset.mem_insert]
    constructor
    · rintro ⟨h1, h2⟩
      rcases Nat.lt_or_ge s.ord s'.ord with h3 | h3
      · exact .inr ⟨h3, h2⟩
      · exact .inl (S.ord_inj s s' h (by omega)).symm
    · rintro (rfl | ⟨h1, h2⟩)
      · exact ⟨le_rfl, h⟩
      · exact ⟨by omega, h2⟩
  rw [e, Finset.sum_insert (by simp), add_comm]

theorem owed_end (c : Dev nD) : owed c 32 = 0 := by
  unfold owed
  rw [Finset.filter_false_of_mem (fun s _ => by omega), Finset.sum_empty]

theorem owed_pos {c : Dev nD} {t : ℕ} {g : GSem nD τ sig} {u : Unit} (h : 0 < owed c t g u) : ∃ s : S, t ≤ s.ord ∧ s.ord < 32 ∧ g = cell (tgt c s) s := by
  by_contra hn
  push Not at hn
  unfold owed at h
  rw [Finset.sum_apply, Finsupp.finset_sum_apply, Finset.sum_eq_zero] at h
  · exact Nat.lt_irrefl 0 h
  · intro s hs
    simp only [Finset.mem_filter, Finset.mem_univ, true_and] at hs
    rw [tallyAt_apply, if_neg (fun h' => hn s hs.1 hs.2 h'.1)]

def L (g : GSem nD τ sig) : Finset Unit := if g.1.2 = .tc then {()} else ∅
/-- The level of a name's cell: arrivals in the order they are paid, above the barrier; the others at the bottom. -/
def S.lev (s : S) : ℕ := if s.ord < 32 then s.ord + 2 else 0
def lv (g : GSem nD τ sig) (_ : Unit) : ℕ := match dec g.2 with | some none => 1 | some (some s) => s.lev | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (s : S) (u : Unit) : lv (cell c s) u = s.lev := by unfold lv; dsimp only; rw [dec_csem]
theorem lv_bar (c : Dev nD) (u : Unit) : lv (bar c) u = 1 := by unfold lv; dsimp only; rw [dec_csem]

/-- A wait on a cell below everything still owed may be made. -/
theorem mayWait_owed (c : Dev nD) (i : Option S) (t : ℕ) (h : lv (cellAt (c, i)) () < t + 2) :
    (levAts L lv : sProp 𝕄) ⊢ MayWait (c : Thread nD τ) (csem i) () (owed c t) :=
  MayOwe.of_cut (L := L) (lev := lv) (lv (cellAt (c, i)) ()) (fun p hp => by rw [Finset.mem_singleton.mp hp, L_tc]; exact Finset.mem_singleton_self _)
    (fun g u hg => by obtain ⟨s, -, -, rfl⟩ := owed_pos hg; rw [L_tc]; exact Finset.mem_singleton_self _)
    (fun p hp => by rw [Finset.mem_singleton.mp hp])
    (fun g u hg => by
      obtain ⟨s, h1, h2, rfl⟩ := owed_pos hg
      rw [lv_cell]; unfold S.lev; rw [if_pos h2]; omega)

end Cert.KernelIdeal.Ring

end
-- ==== Proof.Steps.lean ====
/-
One rule per kind of operation of the exchange, over chunks held at given contents, and the rule of the loops.
-/
module

public import proofs.«01_k».proof.Proof.Sched

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a piece of a device's program. -/
abbrev Wp (c : Dev nD) {α : Type} (p : KProg F α) (Q : α → sProp 𝕄) : sProp 𝕄 :=
  wp frame (wpE (defs₀ (F := F)) 𝒱₀ (c : Thread nD τ) none) Set.univ p Q

/-- What every device may use at any time: the cells' invariants, that their round is reached, the levels. -/
def ctx (K : Dev nD × Option S → ℕ) : sProp 𝕄 :=
  iprop((bigSep Finset.univ fun p => cellInv ER (rd m) (K p) (cellAt p)) ∗ (bigSep Finset.univ fun p => reached ER (cellAt p) 0) ∗ levAts L lv)

instance ctx_persistent (K : Dev nD × Option S → ℕ) : BI.Persistent (ctx m K) := by unfold ctx; infer_instance

variable (K : Dev nD × Option S → ℕ)

theorem ctx_inv (p : Dev nD × Option S) : ctx m K ⊢ cellInv ER (rd m) (K p) (cellAt p) := by
  have h : (bigSep Finset.univ fun p => cellInv ER (rd m) (K p) (cellAt p)) ⊢ (cellInv ER (rd m) (K p) (cellAt p) : sProp 𝕄) := bigSep_elim (Φ := fun p => (cellInv ER (rd m) (K p) (cellAt p) : sProp 𝕄)) (Finset.mem_univ p)
  unfold ctx; iintro ⟨H, -, -⟩; iapply h; iexact H
theorem ctx_reached (p : Dev nD × Option S) : ctx m K ⊢ reached ER (cellAt p) 0 := by
  have h : (bigSep Finset.univ fun p => reached ER (cellAt p) 0) ⊢ (reached ER (cellAt p) 0 : sProp 𝕄) := bigSep_elim (Φ := fun p => (reached ER (cellAt p) 0 : sProp 𝕄)) (Finset.mem_univ p)
  unfold ctx; iintro ⟨-, H, -⟩; iapply h; iexact H
theorem ctx_lev : ctx m K ⊢ levAts L lv := by
  unfold ctx; iintro ⟨-, -, H⟩; iexact H

/-- A device still owes the steps from `t` on. -/
def owe (F : FTy → Type) [FloatOps F] (c : Dev nD) (t : ℕ) : sProp (MT nD τ sig Unit (Elt F) ℕ UU ℕ) := iprop(∃ W, owes (c : Thread nD τ) (owed c t) W)
/-- A device may begin the wait on a name. -/
abbrev pos (F : FTy → Type) [FloatOps F] (c : Dev nD) (s : S) : sProp (MT nD τ sig Unit (Elt F) ℕ UU ℕ) := atPos ER (cell c s) 0 ∅ 0
/-- The credit of a chunk's transfer on a name. -/
abbrev crd (F : FTy → Type) [FloatOps F] (c : Dev nD) (s : S) : sProp (MT nD τ sig Unit (Elt F) ℕ UU ℕ) := cred (tallyAt (cell c s) () N)
/-- The right to pay a name's cell. -/
abbrev tok (F : FTy → Type) [FloatOps F] (c : Dev nD) (s : S) : sProp (MT nD τ sig Unit (Elt F) ℕ UU ℕ) := dutyTok ER (cell c s) 0 0
/-- A name's cell is closed with its counter at zero. -/
abbrev fin (F : FTy → Type) [FloatOps F] (c : Dev nD) (s : S) : sProp (MT nD τ sig Unit (Elt F) ℕ UU ℕ) := semVal (cell c s) 0

theorem rest_dma (c : Dev nD) (s : S) : bigSep ((rd (F := F) m).duties ((c : Thread nD τ), SemLoc.dma s.sem) 0 \ ∅) (fun d => (rd (F := F) m).payload ((c : Thread nD τ), SemLoc.dma s.sem) 0 d) ⊢ pay m c s :=
  Entails.of_eq (rest_cell m c s)
theorem mem_duties (c : Dev nD) (s : S) : (0 : Fin 3) ∈ (rd (F := F) m).duties ((c : Thread nD τ), SemLoc.dma s.sem) 0 := by
  have h := duties_cell (F := F) m c s
  unfold cell cellAt csem at h; rw [h]; exact Finset.mem_singleton_self _
theorem payload_dma (c : Dev nD) (s : S) : (rd (F := F) m).payload ((c : Thread nD τ), SemLoc.dma s.sem) 0 0 = pay m c s := payload_cell m c s 0

/-- What a copy leaves in its destination. -/
theorem own_written (c c' : Dev nD) {sp sp' : Space} (src : Chunk sp) (dst : Chunk sp') (X : S128x1024.Idx → Elt F .f32) (fs : src.view.ty.Contents (Elt F)) (fd : dst.view.ty.Contents (Elt F))
    (hfs : src.view.read (Elt F) fs = X) :
    (dst.view.loc (c' : Thread nD τ) ↦[dst.view.set]{fullShare} (dst.view.write (Elt F) fd (src.view.read (Elt F) fs) Finset.univ)) ⊢ (own c' dst fullShare X : sProp 𝕄) := by
  iintro H
  unfold own owns; iexists (dst.view.write (Elt F) fd (src.view.read (Elt F) fs) Finset.univ); isplitr; · ipureintro; rw [View.read_write_univ]; exact hfs
  iexact H
theorem own_src (c : Dev nD) {sp : Space} (src : Chunk sp) (q : PosShare TreeShare) (X : S128x1024.Idx → Elt F .f32) (fs : src.view.ty.Contents (Elt F)) (hfs : src.view.read (Elt F) fs = X) :
    (src.view.loc (c : Thread nD τ) ↦[src.view.set]{q} fs) ⊢ (own c src q X : sProp 𝕄) := by
  iintro H
  unfold own owns; iexists fs; isplitr; · ipureintro; exact hfs
  iexact H

/-- Waiting on a name hands over its payload and closes its cell. -/
theorem wp_dwait (c : Dev nD) (s : S) (t : ℕ) (ht : s.lev < t + 2) {sp sp' : Space} (src : Chunk sp) (dst : Chunk sp') (Q : PUnit → sProp 𝕄) :
    iprop(ctx m K ∗ pos F c s ∗ crd F c s ∗ owe F c t) ⊢ iprop(((owe F c t ∗ fin F c s ∗ pay m c s) -∗ Q ⟨⟩) -∗ Wp c (dwait s.sem src dst) Q) := by
  iintro ⟨#Hctx, Hat, Hc, Ho⟩ Hk
  unfold owe
  icases Ho with ⟨%W, Ho⟩
  unfold dwait Prog.lift
  iapply (Rounds.wp_wait_rest_token 𝒱₀ ER (rd m) (c : Thread nD τ) none (κ := K (c, some s))
      (wpE_waitDma2_eq 𝒱₀ (c : Thread nD τ) none Set.univ) (Set.mem_univ _) () (O := owed c t) (W := W) (R := 0) (m := 0) (T := ∅)
      (by rw [Nat.zero_add]; exact (expect_cell m c s).symm)) $$ [Hc Ho Hat]
  · isplitr; · iapply (ctx_inv m K (c, some s)); iexact Hctx
    isplitl [Hc]; · iexact Hc
    isplitl [Ho]; · iexact Ho
    isplitr
    · iapply (mayWait_owed c (some s) t (by rw [lv_cell]; exact ht)); iapply (ctx_lev m K); iexact Hctx
    iexact Hat
  iintro ⟨Ho, Hat, -, Hpay⟩
  ihave Hp := (rest_dma m c s) $$ Hpay
  rw [wp_ret]
  imod (Rounds.cell_close ER (rd m) (Set.mem_univ (K (c, some s))) (fun h => h) (R := 0 + 1) (duties_later m (cell c s))) $$ [Hat] with Hz
  · isplitr; · iapply (ctx_inv m K (c, some s)); iexact Hctx
    iexact Hat
  imodintro
  iapply Hk
  isplitl [Ho]; · iexists _; iexact Ho
  isplitl [Hz]; · iexact Hz
  iexact Hp

/-- A local copy leaves the credit of its name. -/
theorem wp_lcopy (c : Dev nD) (s : S) {sp sp' : Space} {src₀ : Chunk sp} {dst₀ : Chunk sp'} (src : Chunk sp) (dst : Chunk sp') (es : src₀ = src) (ed : dst₀ = dst) (q : PosShare TreeShare) (X : S128x1024.Idx → Elt F .f32)
    (h : DmaTarget.Typed (nD := nD) (τ := τ) (p := .tc) sp (.dma s.sem) (.here dst₀))
    (hpay : iprop(own c dst fullShare X ∗ own c src q X) ⊢ pay m c s) (hs : tgt c s = c) (Q : PUnit → sProp 𝕄) :
    iprop(ctx m K ∗ own c src q X ∗ anyOwn F c dst ∗ tok F (tgt c s) s) ⊢ iprop((crd F c s -∗ Q ⟨⟩) -∗ Wp c (lcopy src₀ dst₀ s.sem h) Q) := by
  obtain rfl := es.symm
  obtain rfl := ed.symm
  rw [hs]
  iintro ⟨#Hctx, Hs, Hd, Ht⟩ Hk
  unfold anyOwn own owns
  icases Hs with ⟨%fs, %hfs, Hs⟩
  icases Hd with ⟨%Y, %fd, %hfd, Hd⟩
  unfold lcopy Prog.lift
  iapply (Rounds.wp_copy_pointsTo 𝒱₀ ER (rd m) (c : Thread nD τ) none (κ := K (c, some s)) (src := src) (dst := dst) (sem := .dma s.sem) (q := q) (fs := fs) (fd := fd)
      (r := 0) (d := 0) (mem_duties m c s) () N rfl (amount_cell m c s 0)
      ((BI.sep_mono (own_written c c src dst X fs fd hfs) (own_src c src q X fs hfs)).trans (hpay.trans (Entails.of_eq (payload_dma m c s).symm)))) $$ [Hs Hd Ht]
  · isplitr; · iapply (ctx_inv m K (c, some s)); iexact Hctx
    isplitl [Hs]; · iexact Hs
    isplitl [Hd]; · iexact Hd
    isplitl [Ht]; · iexact Ht
    iapply (ctx_reached m K (c, some s)); iexact Hctx
  iintro Hc
  rw [wp_ret]; imodintro
  iapply Hk; iexact Hc

/-- An addressed copy pays the target's arrival cell and leaves the credit of the sender's name. -/
theorem wp_rcopy (c : Dev nD) (s s' : S) (n : Dev nD) (t : ℕ) (hn : n = tgt c s') (ht : t = s'.ord) (ht' : s'.ord < 32)
    {sp sp' : Space} {src₀ : Chunk sp} {dst₀ : Chunk sp'} (src : Chunk sp) (dst : Chunk sp') (es : src₀ = src) (ed : dst₀ = dst) (q : PosShare TreeShare) (X : S128x1024.Idx → Elt F .f32) (h0 : dst₀.view.ref.isScScratch = false)
    (h : DmaTarget.Typed (nD := nD) (τ := τ) (p := .tc) sp (.dma s'.sem) (.remote (Dev.tc n : Thread nD τ) dst₀ (.dma s.sem) h0))
    (hpay₁ : own c src q X ⊢ pay m c s) (hpay₂ : own (tgt c s') dst fullShare X ⊢ pay m (tgt c s') s') (hs : tgt c s = c) (Q : PUnit → sProp 𝕄) :
    iprop(ctx m K ∗ own c src q X ∗ anyOwn F (tgt c s') dst ∗ tok F (tgt c s) s ∗ tok F (tgt c s') s' ∗ owe F c t)
      ⊢ iprop(((crd F c s ∗ owe F c (t + 1)) -∗ Q ⟨⟩) -∗ Wp c (rcopy n src₀ dst₀ s.sem s'.sem h0 h) Q) := by
  subst hn ht
  obtain rfl := es.symm
  obtain rfl := ed.symm
  rw [hs]
  iintro ⟨#Hctx, Hs, Hd, Ht, Ht', Ho⟩ Hk
  unfold anyOwn own owns owe
  icases Hs with ⟨%fs, %hfs, Hs⟩
  icases Hd with ⟨%Y, %fd, %hfd, Hd⟩
  icases Ho with ⟨%W, Ho⟩
  unfold rcopy Prog.lift
  iapply (Rounds.wp_send_pointsTo 𝒱₀ ER (rd m) (c : Thread nD τ) none (c' := (tgt c s' : Thread nD τ)) (κ₁ := K (c, some s)) (κ₂ := K (tgt c s', some s')) (src := src) (dst := dst)
      (sS := .dma s.sem) (sem := .dma s'.sem) (q := q) (fs := fs) (fd := fd) (r₁ := 0) (r₂ := 0) (d₁ := 0) (d₂ := 0)
      (mem_duties m c s) (mem_duties m (tgt c s') s') () () N rfl (amount_cell m c s 0) (amount_cell m (tgt c s') s' 0) (owed c (s'.ord + 1)) (owed_peel c s' ht') (W := W)
      ((own_src c src q X fs hfs).trans (hpay₁.trans (Entails.of_eq (payload_dma m c s).symm)))
      ((own_written c (tgt c s') src dst X fs fd hfs).trans (hpay₂.trans (Entails.of_eq (payload_dma m (tgt c s') s').symm)))) $$ [Hs Hd Ht Ht' Ho]
  · isplitr; · iapply (ctx_inv m K (c, some s)); iexact Hctx
    isplitr; · iapply (ctx_inv m K (tgt c s', some s')); iexact Hctx
    isplitl [Hs]; · iexact Hs
    isplitl [Hd]; · iexact Hd
    isplitl [Ho]; · iexact Ho
    isplitl [Ht]; · iexact Ht
    isplitr; · iapply (ctx_reached m K (c, some s)); iexact Hctx
    isplitl [Ht']; · iexact Ht'
    iapply (ctx_reached m K (tgt c s', some s')); iexact Hctx
  iintro ⟨Hc, Ho⟩
  rw [wp_ret]; imodintro
  iapply Hk
  isplitl [Hc]; · iexact Hc
  iexists W; iexact Ho

/-- A load of a chunk of a scratch buffer reads its contents. -/
theorem wp_loadC {s : Shape} (c : Dev nD) (b : Memref sig .tc .vmem s .f32) (r : Rect s) (hr : ∀ a, r.stride a = 1) (hl : b.view.LoadsAt r.toLoadRect)
    (q : PosShare TreeShare) (X : r.shape.Idx → Elt F .f32) (Q : (r.shape.Idx → Elt F .f32) → sProp 𝕄) :
    owns (c : Thread nD τ) (b.slice r hr) q X ⊢ iprop((owns (c : Thread nD τ) (b.slice r hr) q X -∗ Q X)
      -∗ Wp c (Prog.lift (.load b r.toLoadRect hl)) Q) := by
  iintro H Hk
  unfold owns
  icases H with ⟨%f, %hf, H⟩
  unfold Prog.lift
  iapply (wp_load_rect 𝒱₀ (c : Thread nD τ) none Set.univ (m := b) (r := r) (q := q) (f := f) (S := (b.access r).set) (Finset.Subset.refl _)) $$ H
  iintro H
  rw [wp_ret]; imodintro
  rw [show (b.access r).read (Elt F) f = X from hf]
  iapply Hk
  iexists f; isplitr; · ipureintro; exact hf
  iexact H

/-- A store to a chunk of a scratch buffer sets its contents. -/
theorem wp_storeC {s : Shape} (c : Dev nD) (b : Memref sig .tc .vmem s .f32) (r : Rect s) (hr : ∀ a, r.stride a = 1) (w : r.shape.Idx → Elt F .f32)
    (hx : (b.access r).Stores Finset.univ) (hm : Finset.univ = Finset.univ ∨ ∀ a, r.stride a = 1)
    (X : r.shape.Idx → Elt F .f32) (Q : PUnit → sProp 𝕄) :
    owns (c : Thread nD τ) (b.slice r hr) fullShare X ⊢ iprop((owns (c : Thread nD τ) (b.slice r hr) fullShare w -∗ Q ⟨⟩)
      -∗ Wp c (Prog.lift (.store b r w Finset.univ hx hm)) Q) := by
  iintro H Hk
  unfold owns
  icases H with ⟨%f, %hf, H⟩
  unfold Prog.lift
  iapply (wp_store 𝒱₀ (c : Thread nD τ) none Set.univ (m := b) (r := r) (Mk := Finset.univ) (f := f) (S := (b.access r).set) (Finset.Subset.refl _)) $$ H
  iintro H
  rw [wp_ret]; imodintro
  iapply Hk
  iexists _; isplitr; · ipureintro; exact View.read_write_univ (v := b.access r) f w
  iexact H

theorem bigSep4 (Φ : Fin 4 → sProp 𝕄) : bigSep Finset.univ Φ = iprop(Φ 0 ∗ Φ 1 ∗ Φ 2 ∗ Φ 3) := by
  rw [bigSep_univ_eq_bigSepL [0, 1, 2, 3] (by decide) (by decide)]
  simp only [bigSepL_cons_cons, bigSepL_singleton]
  rfl
theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  simp only [bigSepL_cons_cons, bigSepL_singleton]
  rfl

/-- Four steps: each turns its part of the precondition into its part of the postcondition, carrying a state along. -/
theorem wp_seq4 (c : Dev nD) (f : Fin 4 → KProg F PUnit) (R : ℕ → sProp 𝕄) (Pre Post : Fin 4 → sProp 𝕄)
    (h : ∀ j : Fin 4, iprop(Pre j ∗ R j) ⊢ Wp c (f j) (fun _ => iprop(Post j ∗ R (j + 1)))) (Q : PUnit → sProp 𝕄) :
    iprop(bigSep Finset.univ Pre ∗ R 0) ⊢ iprop(((bigSep Finset.univ Post ∗ R 4) -∗ Q ⟨⟩) -∗ Wp c (seq4 f) Q) := by
  have h0 : iprop(Pre 0 ∗ R 0) ⊢ Wp c (f 0) (fun _ => iprop(Post 0 ∗ R 1)) := h 0
  have h1 : iprop(Pre 1 ∗ R 1) ⊢ Wp c (f 1) (fun _ => iprop(Post 1 ∗ R 2)) := h 1
  have h2 : iprop(Pre 2 ∗ R 2) ⊢ Wp c (f 2) (fun _ => iprop(Post 2 ∗ R 3)) := h 2
  have h3 : iprop(Pre 3 ∗ R 3) ⊢ Wp c (f 3) (fun _ => iprop(Post 3 ∗ R 4)) := h 3
  rw [bigSep4, bigSep4]
  unfold seq4
  simp only [wp_bind]
  iintro ⟨⟨P0, P1, P2, P3⟩, R0⟩ Hk
  iapply (wp_wand_r _ _ _)
  isplitl [P0 R0]; · iapply h0; isplitl [P0] <;> iassumption
  iintro %_ ⟨Q0, R1⟩
  iapply (wp_wand_r _ _ _)
  isplitl [P1 R1]; · iapply h1; isplitl [P1] <;> iassumption
  iintro %_ ⟨Q1, R2⟩
  iapply (wp_wand_r _ _ _)
  isplitl [P2 R2]; · iapply h2; isplitl [P2] <;> iassumption
  iintro %_ ⟨Q2, R3⟩
  iapply (wp_wand_r _ _ _)
  isplitl [P3 R3]; · iapply h3; isplitl [P3] <;> iassumption
  iintro %_ ⟨Q3, R4⟩
  iapply Hk
  isplitr [R4]
  · isplitl [Q0]; · iexact Q0
    isplitl [Q1]; · iexact Q1
    isplitl [Q2]; · iexact Q2
    iexact Q3
  iexact R4

theorem wp_seq8_eq (c : Dev nD) (f : Fin 8 → KProg F PUnit) (Q : PUnit → sProp 𝕄) :
    Wp c (seq8 f) Q = Wp c (seq4 (fun j => f (lo j))) (fun _ => Wp c (seq4 (fun j => f (hi j))) Q) := by
  unfold seq8 seq4
  simp only [wp_bind]
  rfl

/-- A separating conjunction over eight as two over four. -/
theorem bigSep_lo_hi (Φ : Fin 8 → sProp 𝕄) :
    bigSep Finset.univ Φ = iprop((bigSep Finset.univ fun j : Fin 4 => Φ (lo j)) ∗ bigSep Finset.univ fun j : Fin 4 => Φ (hi j)) := by
  rw [bigSep4, bigSep4, bigSep8]
  have h1 : iprop(Φ 0 ∗ Φ 1 ∗ Φ 2 ∗ Φ 3 ∗ Φ 4 ∗ Φ 5 ∗ Φ 6 ∗ Φ 7) ⊢ iprop((Φ 0 ∗ Φ 1 ∗ Φ 2 ∗ Φ 3) ∗ Φ 4 ∗ Φ 5 ∗ Φ 6 ∗ Φ 7) := by
    iintro ⟨H0, H1, H2, H3, H4, H5, H6, H7⟩
    isplitl [H0 H1 H2 H3]
    · isplitl [H0]; · iexact H0
      isplitl [H1]; · iexact H1
      isplitl [H2]; · iexact H2
      iexact H3
    isplitl [H4]; · iexact H4
    isplitl [H5]; · iexact H5
    isplitl [H6]; · iexact H6
    iexact H7
  have h2 : iprop((Φ 0 ∗ Φ 1 ∗ Φ 2 ∗ Φ 3) ∗ Φ 4 ∗ Φ 5 ∗ Φ 6 ∗ Φ 7) ⊢ iprop(Φ 0 ∗ Φ 1 ∗ Φ 2 ∗ Φ 3 ∗ Φ 4 ∗ Φ 5 ∗ Φ 6 ∗ Φ 7) := by
    iintro ⟨⟨H0, H1, H2, H3⟩, H4, H5, H6, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  exact BI.Entails.antisymm h1 h2

/-- Eight steps, likewise. -/
theorem wp_seq8 (c : Dev nD) (f : Fin 8 → KProg F PUnit) (R : ℕ → sProp 𝕄) (Pre Post : Fin 8 → sProp 𝕄)
    (h : ∀ k : Fin 8, iprop(Pre k ∗ R k) ⊢ Wp c (f k) (fun _ => iprop(Post k ∗ R (k + 1)))) (Q : PUnit → sProp 𝕄) :
    iprop(bigSep Finset.univ Pre ∗ R 0) ⊢ iprop(((bigSep Finset.univ Post ∗ R 8) -∗ Q ⟨⟩) -∗ Wp c (seq8 f) Q) := by
  rw [wp_seq8_eq, bigSep_lo_hi, bigSep_lo_hi]
  iintro ⟨⟨Hl, Hh⟩, HR⟩ Hk
  iapply (wp_seq4 c (fun j => f (lo j)) R (fun j => Pre (lo j)) (fun j => Post (lo j)) (fun j => h (lo j))) $$ [Hl HR]
  · isplitl [Hl] <;> iassumption
  iintro ⟨Ql, HR⟩
  iapply (wp_seq4 c (fun j => f (hi j)) (fun i => R (4 + i)) (fun j => Pre (hi j)) (fun j => Post (hi j)) (fun j => h (hi j))) $$ [Hh HR]
  · isplitl [Hh] <;> iassumption
  iintro ⟨Qh, HR⟩
  iapply Hk
  isplitr [HR]
  · isplitl [Ql] <;> iassumption
  iexact HR

end Cert.KernelIdeal.Ring

end
-- ==== Proof.Phases.lean ====
/-
The steps of each loop of the exchange: what one pass takes and what it leaves.
-/
module

public import proofs.«01_k».proof.Proof.Steps

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option S → ℕ)

/-- The right to pay the cell a device's operation on a name pays. -/
abbrev tk (F : FTy → Type) [FloatOps F] (c : Dev nD) (s : S) : sProp (MT nD τ sig Unit (Elt F) ℕ UU ℕ) := tok F (tgt c s) s

/-- What the loops carry: the shared facts and the debt from step `t` on. -/
def st (c : Dev nD) (t : ℕ) : sProp 𝕄 := iprop(ctx m K ∗ owe F c t)

theorem halves (c : Dev nD) {sp : Space} (b : Chunk sp) (q : PosShare TreeShare) (X : S128x1024.Idx → Elt F .f32) :
    (own c b q X : sProp 𝕄) ⊢ iprop(own c b q.left X ∗ own c b q.right X) := (owns_halves (c : Thread nD τ) b q X).1
theorem halves' (c : Dev nD) {sp : Space} (b : Chunk sp) (q : PosShare TreeShare) (X : S128x1024.Idx → Elt F .f32) :
    iprop(own c b q.left X ∗ own c b q.right X) ⊢ (own c b q X : sProp 𝕄) := (owns_halves (c : Thread nD τ) b q X).2

theorem lev_le (s : S) : s.lev ≤ s.ord + 2 := by unfold S.lev; split <;> omega

/-- Both copies of an operand chunk start. -/
theorem zStep_spec (c : Dev nD) (k : Fin 8) :
    iprop((own c (xC (qm c) k) fullShare (xv m c (qm c) k) ∗ anyOwn F (zn c) (sl8 mB k) ∗ anyOwn F c (sl8 qB k) ∗ tk F c (.zs k) ∗ tk F c (.zr k) ∗ tk F c (.lin k)) ∗ st m K c k)
      ⊢ Wp c (zStep c k) (fun _ => iprop((crd F c (.zs k) ∗ crd F c (.lin k)) ∗ st m K c (k + 1))) := by
  unfold zStep st
  simp only [wp_bind]
  iintro ⟨⟨Hx, Hm, Hq, T1, T2, T3⟩, #Hc, Ho⟩
  ihave Hx2 := (halves c _ _ _) $$ Hx
  icases Hx2 with ⟨Ha, Hb⟩
  iapply (wp_rcopy m K c (.zs k) (.zr k) (pz c) k (pz_eq c) rfl (by dsimp only [S.ord]; omega) (xC (qm c) k) (sl8 mB k) (off1 xB c k) rfl shA (xv m c (qm c) k) rfl _
      (.rfl) (by dsimp only [pay, tgt]; rw [zn_zn, qm_zn]) rfl) $$ [Ha Hm T1 T2 Ho]
  · isplitr; · iexact Hc
    isplitl [Ha]; · iexact Ha
    isplitl [Hm]; · iexact Hm
    isplitl [T1]; · iexact T1
    isplitl [T2]; · iexact T2
    iexact Ho
  iintro ⟨C1, Ho⟩
  iapply (wp_lcopy m K c (.lin k) (xC (qm c) k) (sl8 qB k) (off1 xB c k) rfl shB (xv m c (qm c) k) _ (.rfl) rfl) $$ [Hb Hq T3]
  · isplitr; · iexact Hc
    isplitl [Hb]; · iexact Hb
    isplitl [Hq]; · iexact Hq
    iexact T3
  iintro C2
  isplitl [C1 C2]
  · isplitl [C1] <;> iassumption
  isplitr; · iexact Hc
  iexact Ho

/-- The sum of a chunk is stored, its copy to the result started, and the two shares left for the sends. -/
theorem addStep_spec (c : Dev nD) (k : Fin 8) (t : ℕ) (ht : k.val < t) (Q : PUnit → sProp 𝕄) :
    iprop(ctx m K ∗ owe F c t ∗ pos F c (.lin k) ∗ crd F c (.lin k) ∗ pos F c (.zr k) ∗ crd F c (.zr k) ∗ anyOwn F c (oC (qm c) k) ∗ tk F c (.lred k))
      ⊢ iprop(((owe F c t ∗ (fin F c (.lin k) ∗ fin F c (.zr k) ∗ anyOwn F c (sl8 qB k) ∗ own c (xC (qm c) k) shB (xv m c (qm c) k) ∗ crd F c (.lred k))
          ∗ own c (sl8 mB k) shC (red m c k) ∗ own c (sl8 mB k) shD (red m c k)) -∗ Q ⟨⟩) -∗ Wp c (addStep c k) Q) := by
  unfold addStep
  simp only [wp_bind]
  iintro ⟨#Hc, Ho, P1, C1, P2, C2, Hout, T⟩ Hk
  iapply (wp_dwait m K c (.lin k) t (by unfold S.lev S.ord; simp) _ _) $$ [P1 C1 Ho]
  · isplitr; · iexact Hc
    isplitl [P1]; · iexact P1
    isplitl [C1] <;> iassumption
  iintro ⟨Ho, Z1, Hp⟩
  unfold pay
  icases Hp with ⟨Hq, Hx⟩
  iapply (wp_dwait m K c (.zr k) t (lt_of_le_of_lt (lev_le _) (by dsimp only [S.ord]; omega)) _ _) $$ [P2 C2 Ho]
  · isplitr; · iexact Hc
    isplitl [P2]; · iexact P2
    isplitl [C2] <;> iassumption
  iintro ⟨Ho, Z2, Hm⟩
  unfold pay
  iapply (wp_loadC c qB (rect8 k) (fun _ => rfl) _ fullShare (xv m c (qm c) k)) $$ Hq
  iintro Hq
  iapply (wp_loadC c mB (rect8 k) (fun _ => rfl) _ fullShare (xv m (zn c) (qm c) k)) $$ Hm
  iintro Hm
  iapply (wp_loadC c mB (rect8 k) (fun _ => rfl) _ fullShare (xv m (zn c) (qm c) k)) $$ Hm
  iintro Hm
  iapply (wp_storeC c mB (rect8 k) (fun _ => rfl) _ _ _ (xv m (zn c) (qm c) k)) $$ Hm
  iintro Hm
  ihave Hm := (show owns (c : Thread nD τ) (mB.slice (rect8 k) (fun _ => rfl)) fullShare (k0_pay1 (xv m c (qm c) k) (xv m (zn c) (qm c) k)) ⊢ own c (sl8 mB k) fullShare (red m c k) from .rfl) $$ Hm
  ihave Hm2 := (halves c (sl8 mB k) fullShare (red m c k)) $$ Hm
  icases Hm2 with ⟨Ha, Hb⟩
  ihave Hb2 := (halves c (sl8 mB k) fullShare.right (red m c k)) $$ Hb
  icases Hb2 with ⟨Hb, Hd⟩
  iapply (wp_lcopy m K c (.lred k) (sl8 mB k) (oC (qm c) k) rfl (off1 oB c k) shA (red m c k) _ (.rfl) rfl) $$ [Ha Hout T]
  · isplitr; · iexact Hc
    isplitl [Ha]; · iexact Ha
    isplitl [Hout]; · iexact Hout
    iexact T
  iintro C3
  iapply Hk
  isplitl [Ho]; · iexact Ho
  isplitr [Hb Hd]
  · isplitl [Z1]; · iexact Z1
    isplitl [Z2]; · iexact Z2
    isplitl [Hq]; · unfold anyOwn; iexists _; iexact Hq
    isplitl [Hx] <;> iassumption
  isplitl [Hb] <;> iassumption

/-- What a pass of the sums takes on its own device. -/
def addPre (c : Dev nD) (k : Fin 8) : sProp 𝕄 :=
  iprop(pos F c (.lin k) ∗ crd F c (.lin k) ∗ pos F c (.zr k) ∗ crd F c (.zr k) ∗ anyOwn F c (oC (qm c) k) ∗ tk F c (.lred k))
/-- What it leaves there. -/
def addPost (c : Dev nD) (k : Fin 8) : sProp 𝕄 :=
  iprop(fin F c (.lin k) ∗ fin F c (.zr k) ∗ anyOwn F c (sl8 qB k) ∗ own c (xC (qm c) k) shB (xv m c (qm c) k) ∗ crd F c (.lred k))

/-- A pass over an upper-half chunk. -/
theorem loStep_spec (c : Dev nD) (j : Fin 4) :
    iprop((addPre (F := F) c (lo j) ∗ anyOwn F (xn c) (sl4 gxB j) ∗ anyOwn F (yn c) (oC (qm c) (lo j)) ∗ tk F c (.xs (lo j)) ∗ tk F c (.xg j) ∗ tk F c (.ys (lo j)) ∗ tk F c (.yo j))
        ∗ st m K c (8 + 2 * j))
      ⊢ Wp c (loStep c j) (fun _ => iprop((addPost m c (lo j) ∗ crd F c (.xs (lo j)) ∗ crd F c (.ys (lo j))) ∗ st m K c (8 + 2 * (j + 1)))) := by
  unfold loStep st addPre addPost
  simp only [wp_bind]
  iintro ⟨⟨⟨P1, C1, P2, C2, Hout, T⟩, Hg, Hy, T1, T2, T3, T4⟩, #Hc, Ho⟩
  iapply (addStep_spec m K c (lo j) (8 + 2 * j) (by show j.val < _; omega)) $$ [P1 C1 P2 C2 Hout T Ho]
  · isplitr; · iexact Hc
    isplitl [Ho]; · iexact Ho
    isplitl [P1]; · iexact P1
    isplitl [C1]; · iexact C1
    isplitl [P2]; · iexact P2
    isplitl [C2]; · iexact C2
    isplitl [Hout] <;> iassumption
  iintro ⟨Ho, HA, Hb, Hd⟩
  iapply (wp_rcopy m K c (.xs (lo j)) (.xg j) (px c) (8 + 2 * j) (px_eq c) rfl (by dsimp only [S.ord]; omega) (sl8 mB (lo j)) (sl4 gxB j) rfl rfl shC (red m c (lo j)) rfl _
      (.rfl) (by dsimp only [pay, tgt]; rw [xn_xn]) rfl) $$ [Hb Hg T1 T2 Ho]
  · isplitr; · iexact Hc
    isplitl [Hb]; · iexact Hb
    isplitl [Hg]; · iexact Hg
    isplitl [T1]; · iexact T1
    isplitl [T2]; · iexact T2
    iexact Ho
  iintro ⟨D1, Ho⟩
  iapply (wp_rcopy m K c (.ys (lo j)) (.yo j) (py c) (8 + 2 * j + 1) (py_eq c) rfl (by dsimp only [S.ord]; omega) (sl8 mB (lo j)) (oC (qm c) (lo j)) rfl (off1 oB c (lo j)) shD (red m c (lo j)) rfl _
      (.rfl) (by dsimp only [pay, tgt]; rw [yn_yn]) rfl) $$ [Hd Hy T3 T4 Ho]
  · isplitr; · iexact Hc
    isplitl [Hd]; · iexact Hd
    isplitl [Hy]; · iexact Hy
    isplitl [T3]; · iexact T3
    isplitl [T4]; · iexact T4
    iexact Ho
  iintro ⟨D2, Ho⟩
  isplitr [Ho]
  · isplitl [HA]; · iexact HA
    isplitl [D1] <;> iassumption
  isplitr; · iexact Hc
  iexact Ho

/-- A pass over a lower-half chunk. -/
theorem hiStep_spec (c : Dev nD) (j : Fin 4) :
    iprop((addPre (F := F) c (hi j) ∗ anyOwn F (xn c) (oC (qm c) (hi j)) ∗ anyOwn F (yn c) (sl4 gyB j) ∗ tk F c (.xs (hi j)) ∗ tk F c (.xo j) ∗ tk F c (.ys (hi j)) ∗ tk F c (.yg j))
        ∗ st m K c (16 + 2 * j))
      ⊢ Wp c (hiStep c j) (fun _ => iprop((addPost m c (hi j) ∗ crd F c (.xs (hi j)) ∗ crd F c (.ys (hi j))) ∗ st m K c (16 + 2 * (j + 1)))) := by
  unfold hiStep st addPre addPost
  simp only [wp_bind]
  iintro ⟨⟨⟨P1, C1, P2, C2, Hout, T⟩, Hg, Hy, T1, T2, T3, T4⟩, #Hc, Ho⟩
  iapply (addStep_spec m K c (hi j) (16 + 2 * j) (by show 4 + j.val < _; omega)) $$ [P1 C1 P2 C2 Hout T Ho]
  · isplitr; · iexact Hc
    isplitl [Ho]; · iexact Ho
    isplitl [P1]; · iexact P1
    isplitl [C1]; · iexact C1
    isplitl [P2]; · iexact P2
    isplitl [C2]; · iexact C2
    isplitl [Hout] <;> iassumption
  iintro ⟨Ho, HA, Hb, Hd⟩
  iapply (wp_rcopy m K c (.xs (hi j)) (.xo j) (px c) (16 + 2 * j) (px_eq c) rfl (by dsimp only [S.ord]; omega) (sl8 mB (hi j)) (oC (qm c) (hi j)) rfl (off1 oB c (hi j)) shC (red m c (hi j)) rfl _
      (.rfl) (by dsimp only [pay, tgt]; rw [xn_xn]) rfl) $$ [Hb Hg T1 T2 Ho]
  · isplitr; · iexact Hc
    isplitl [Hb]; · iexact Hb
    isplitl [Hg]; · iexact Hg
    isplitl [T1]; · iexact T1
    isplitl [T2]; · iexact T2
    iexact Ho
  iintro ⟨D1, Ho⟩
  iapply (wp_rcopy m K c (.ys (hi j)) (.yg j) (py c) (16 + 2 * j + 1) (py_eq c) rfl (by dsimp only [S.ord]; omega) (sl8 mB (hi j)) (sl4 gyB j) rfl rfl shD (red m c (hi j)) rfl _
      (.rfl) (by dsimp only [pay, tgt]; rw [yn_yn]) rfl) $$ [Hd Hy T3 T4 Ho]
  · isplitr; · iexact Hc
    isplitl [Hd]; · iexact Hd
    isplitl [Hy]; · iexact Hy
    isplitl [T3]; · iexact T3
    isplitl [T4]; · iexact T4
    iexact Ho
  iintro ⟨D2, Ho⟩
  isplitr [Ho]
  · isplitl [HA]; · iexact HA
    isplitl [D1] <;> iassumption
  isplitr; · iexact Hc
  iexact Ho

/-- A relay from the x neighbour to the y neighbour's result and the own one. -/
theorem fyStep_spec (c : Dev nD) (j : Fin 4) :
    iprop((pos F c (.xg j) ∗ crd F c (.xg j) ∗ anyOwn F (yn c) (oC (qm (xn c)) (lo j)) ∗ anyOwn F c (oC (qm (xn c)) (lo j)) ∗ tk F c (.fys j) ∗ tk F c (.fyr j) ∗ tk F c (.lgx j))
        ∗ st m K c (24 + j))
      ⊢ Wp c (fyStep c j) (fun _ => iprop((fin F c (.xg j) ∗ crd F c (.fys j) ∗ crd F c (.lgx j)) ∗ st m K c (24 + (j + 1)))) := by
  unfold fyStep st
  simp only [wp_bind]
  iintro ⟨⟨P, C, Hn, Hm, T1, T2, T3⟩, #Hc, Ho⟩
  iapply (wp_dwait m K c (.xg j) (24 + j) (lt_of_le_of_lt (lev_le _) (by dsimp only [S.ord]; omega)) _ _) $$ [P C Ho]
  · isplitr; · iexact Hc
    isplitl [P]; · iexact P
    isplitl [C] <;> iassumption
  iintro ⟨Ho, Z, Hg⟩
  unfold pay
  ihave Hg2 := (halves c (sl4 gxB j) fullShare (red m (xn c) (lo j))) $$ Hg
  icases Hg2 with ⟨Ha, Hb⟩
  iapply (wp_rcopy m K c (.fys j) (.fyr j) (py c) (24 + j) (py_eq c) rfl (by dsimp only [S.ord]; omega) (sl4 gxB j) (oC (qm (xn c)) (lo j)) rfl (off2 oB c j) shA (red m (xn c) (lo j)) rfl _
      (.rfl) (by dsimp only [pay, tgt]; rw [xn_yn, yn_yn]) rfl) $$ [Ha Hn T1 T2 Ho]
  · isplitr; · iexact Hc
    isplitl [Ha]; · iexact Ha
    isplitl [Hn]; · iexact Hn
    isplitl [T1]; · iexact T1
    isplitl [T2]; · iexact T2
    iexact Ho
  iintro ⟨C1, Ho⟩
  iapply (wp_lcopy m K c (.lgx j) (sl4 gxB j) (oC (qm (xn c)) (lo j)) rfl (off2 oB c j) shB (red m (xn c) (lo j)) _ (.rfl) rfl) $$ [Hb Hm T3]
  · isplitr; · iexact Hc
    isplitl [Hb]; · iexact Hb
    isplitl [Hm]; · iexact Hm
    iexact T3
  iintro C2
  isplitr [Ho]
  · isplitl [Z]; · iexact Z
    isplitl [C1] <;> iassumption
  isplitr; · iexact Hc
  iexact Ho

/-- A relay from the y neighbour to the x neighbour's result and the own one. -/
theorem fxStep_spec (c : Dev nD) (j : Fin 4) :
    iprop((pos F c (.yg j) ∗ crd F c (.yg j) ∗ anyOwn F (xn c) (oC (qm (yn c)) (hi j)) ∗ anyOwn F c (oC (qm (yn c)) (hi j)) ∗ tk F c (.fxs j) ∗ tk F c (.fxr j) ∗ tk F c (.lgy j))
        ∗ st m K c (28 + j))
      ⊢ Wp c (fxStep c j) (fun _ => iprop((fin F c (.yg j) ∗ crd F c (.fxs j) ∗ crd F c (.lgy j)) ∗ st m K c (28 + (j + 1)))) := by
  unfold fxStep st
  simp only [wp_bind]
  iintro ⟨⟨P, C, Hn, Hm, T1, T2, T3⟩, #Hc, Ho⟩
  iapply (wp_dwait m K c (.yg j) (28 + j) (lt_of_le_of_lt (lev_le _) (by dsimp only [S.ord]; omega)) _ _) $$ [P C Ho]
  · isplitr; · iexact Hc
    isplitl [P]; · iexact P
    isplitl [C] <;> iassumption
  iintro ⟨Ho, Z, Hg⟩
  unfold pay
  ihave Hg2 := (halves c (sl4 gyB j) fullShare (red m (yn c) (hi j))) $$ Hg
  icases Hg2 with ⟨Ha, Hb⟩
  iapply (wp_rcopy m K c (.fxs j) (.fxr j) (px c) (28 + j) (px_eq c) rfl (by dsimp only [S.ord]; omega) (sl4 gyB j) (oC (qm (yn c)) (hi j)) rfl (off3 oB c j) shA (red m (yn c) (hi j)) rfl _
      (.rfl) (by dsimp only [pay, tgt]; rw [xn_xn]) rfl) $$ [Ha Hn T1 T2 Ho]
  · isplitr; · iexact Hc
    isplitl [Ha]; · iexact Ha
    isplitl [Hn]; · iexact Hn
    isplitl [T1]; · iexact T1
    isplitl [T2]; · iexact T2
    iexact Ho
  iintro ⟨C1, Ho⟩
  iapply (wp_lcopy m K c (.lgy j) (sl4 gyB j) (oC (qm (yn c)) (hi j)) rfl (off3 oB c j) shB (red m (yn c) (hi j)) _ (.rfl) rfl) $$ [Hb Hm T3]
  · isplitr; · iexact Hc
    isplitl [Hb]; · iexact Hb
    isplitl [Hm]; · iexact Hm
    iexact T3
  iintro C2
  isplitr [Ho]
  · isplitl [Z]; · iexact Z
    isplitl [C1] <;> iassumption
  isplitr; · iexact Hc
  iexact Ho

theorem lev_lt (s : S) : s.lev < 32 + 2 := by unfold S.lev; split <;> omega

/-- A wait once nothing is owed: from the position and the credit to the closed cell and the payload. -/
theorem wait_spec (c : Dev nD) (s : S) {sp sp' : Space} (src : Chunk sp) (dst : Chunk sp') (Q : PUnit → sProp 𝕄) :
    iprop((pos F c s ∗ crd F c s) ∗ st m K c 32) ⊢ iprop((((fin F c s ∗ pay m c s) ∗ st m K c 32) -∗ Q ⟨⟩) -∗ Wp c (dwait s.sem src dst) Q) := by
  unfold st
  iintro ⟨⟨P, C⟩, #Hc, Ho⟩ Hk
  iapply (wp_dwait m K c s 32 (lev_lt s) src dst) $$ [P C Ho]
  · isplitr; · iexact Hc
    isplitl [P]; · iexact P
    isplitl [C] <;> iassumption
  iintro ⟨Ho, Z, Hp⟩
  iapply Hk
  isplitl [Z Hp]
  · isplitl [Z] <;> iassumption
  isplitr; · iexact Hc
  iexact Ho

/-- What a pending wait needs. -/
abbrev wpre (F : FTy → Type) [FloatOps F] (c : Dev nD) (s : S) : sProp (MT nD τ sig Unit (Elt F) ℕ UU ℕ) := iprop(pos F c s ∗ crd F c s)
/-- What a made wait leaves. -/
abbrev wpost (c : Dev nD) (s : S) : sProp 𝕄 := iprop(fin F c s ∗ pay m c s)

theorem wait1_spec (c : Dev nD) (s : S) {sp sp' : Space} (src : Chunk sp) (dst : Chunk sp') :
    iprop(wpre F c s ∗ st m K c 32) ⊢ Wp c (dwait s.sem src dst) (fun _ => iprop(wpost m c s ∗ st m K c 32)) := by
  iintro H
  iapply (wait_spec m K c s src dst) $$ H
  iintro H; iexact H

/-- Four waits in a row. -/
theorem wait4_spec (c : Dev nD) (s₁ s₂ s₃ s₄ : S) {a₁ b₁ a₂ b₂ a₃ b₃ a₄ b₄ : Space} (x₁ : Chunk a₁) (y₁ : Chunk b₁) (x₂ : Chunk a₂) (y₂ : Chunk b₂)
    (x₃ : Chunk a₃) (y₃ : Chunk b₃) (x₄ : Chunk a₄) (y₄ : Chunk b₄) :
    iprop((wpre F c s₁ ∗ wpre F c s₂ ∗ wpre F c s₃ ∗ wpre F c s₄) ∗ st m K c 32)
      ⊢ Wp c (do dwait s₁.sem x₁ y₁; dwait s₂.sem x₂ y₂; dwait s₃.sem x₃ y₃; dwait s₄.sem x₄ y₄)
        (fun _ => iprop((wpost m c s₁ ∗ wpost m c s₂ ∗ wpost m c s₃ ∗ wpost m c s₄) ∗ st m K c 32)) := by
  simp only [wp_bind]
  iintro ⟨⟨H1, H2, H3, H4⟩, Hs⟩
  iapply (wait_spec m K c s₁ x₁ y₁) $$ [H1 Hs]
  · isplitl [H1] <;> iassumption
  iintro ⟨H1, Hs⟩
  iapply (wait_spec m K c s₂ x₂ y₂) $$ [H2 Hs]
  · isplitl [H2] <;> iassumption
  iintro ⟨H2, Hs⟩
  iapply (wait_spec m K c s₃ x₃ y₃) $$ [H3 Hs]
  · isplitl [H3] <;> iassumption
  iintro ⟨H3, Hs⟩
  iapply (wait_spec m K c s₄ x₄ y₄) $$ [H4 Hs]
  · isplitl [H4] <;> iassumption
  iintro ⟨H4, Hs⟩
  isplitr [Hs]
  · isplitl [H1]; · iexact H1
    isplitl [H2]; · iexact H2
    isplitl [H3] <;> iassumption
  iexact Hs

theorem loDrain_spec (c : Dev nD) (j : Fin 4) :
    iprop((wpre F c (.zs (lo j)) ∗ wpre F c (.xs (lo j)) ∗ wpre F c (.ys (lo j)) ∗ wpre F c (.lred (lo j))) ∗ st m K c 32)
      ⊢ Wp c (loDrain c j) (fun _ => iprop((wpost m c (.zs (lo j)) ∗ wpost m c (.xs (lo j)) ∗ wpost m c (.ys (lo j)) ∗ wpost m c (.lred (lo j))) ∗ st m K c 32)) :=
  wait4_spec m K c (.zs (lo j)) (.xs (lo j)) (.ys (lo j)) (.lred (lo j)) _ _ _ _ _ _ _ _
theorem hiDrain_spec (c : Dev nD) (j : Fin 4) :
    iprop((wpre F c (.zs (hi j)) ∗ wpre F c (.xs (hi j)) ∗ wpre F c (.ys (hi j)) ∗ wpre F c (.lred (hi j))) ∗ st m K c 32)
      ⊢ Wp c (hiDrain c j) (fun _ => iprop((wpost m c (.zs (hi j)) ∗ wpost m c (.xs (hi j)) ∗ wpost m c (.ys (hi j)) ∗ wpost m c (.lred (hi j))) ∗ st m K c 32)) :=
  wait4_spec m K c (.zs (hi j)) (.xs (hi j)) (.ys (hi j)) (.lred (hi j)) _ _ _ _ _ _ _ _
theorem relayDrain_spec (c : Dev nD) (j : Fin 4) :
    iprop((wpre F c (.fxs j) ∗ wpre F c (.fys j) ∗ wpre F c (.lgx j) ∗ wpre F c (.lgy j)) ∗ st m K c 32)
      ⊢ Wp c (relayDrain c j) (fun _ => iprop((wpost m c (.fxs j) ∗ wpost m c (.fys j) ∗ wpost m c (.lgx j) ∗ wpost m c (.lgy j)) ∗ st m K c 32)) :=
  wait4_spec m K c (.fxs j) (.fys j) (.lgx j) (.lgy j) _ _ _ _ _ _ _ _

end Cert.KernelIdeal.Ring

end
-- ==== Proof.Shake.lean ====
/-
The body on one device: the handshake, then the loops of the exchange, from the resources a device starts with to the
closed cells and the result.
-/
module

public import proofs.«01_k».proof.Proof.Phases

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option S → ℕ)

/-! ## Cutting families -/

/-- A family over the names, kind by kind. -/
theorem bigSepS (Φ : S → sProp 𝕄) : bigSep Finset.univ Φ = iprop(
    (bigSep Finset.univ fun k : Fin 8 => Φ (.zs k)) ∗ (bigSep Finset.univ fun k : Fin 8 => Φ (.zr k)) ∗ (bigSep Finset.univ fun k : Fin 8 => Φ (.xs k))
    ∗ (bigSep Finset.univ fun k : Fin 8 => Φ (.ys k)) ∗ (bigSep Finset.univ fun k : Fin 8 => Φ (.lin k)) ∗ (bigSep Finset.univ fun k : Fin 8 => Φ (.lred k))
    ∗ (bigSep Finset.univ fun j : Fin 4 => Φ (.xg j)) ∗ (bigSep Finset.univ fun j : Fin 4 => Φ (.xo j)) ∗ (bigSep Finset.univ fun j : Fin 4 => Φ (.yo j))
    ∗ (bigSep Finset.univ fun j : Fin 4 => Φ (.yg j)) ∗ (bigSep Finset.univ fun j : Fin 4 => Φ (.fxs j)) ∗ (bigSep Finset.univ fun j : Fin 4 => Φ (.fys j))
    ∗ (bigSep Finset.univ fun j : Fin 4 => Φ (.fxr j)) ∗ (bigSep Finset.univ fun j : Fin 4 => Φ (.fyr j)) ∗ (bigSep Finset.univ fun j : Fin 4 => Φ (.lgx j))
    ∗ (bigSep Finset.univ fun j : Fin 4 => Φ (.lgy j))) := by
  have e6 (Ψ : Fin 6 → sProp 𝕄) : bigSep Finset.univ Ψ = iprop(Ψ 0 ∗ Ψ 1 ∗ Ψ 2 ∗ Ψ 3 ∗ Ψ 4 ∗ Ψ 5) := by
    rw [bigSep_univ_eq_bigSepL [0, 1, 2, 3, 4, 5] (by decide) (by decide)]
    simp only [bigSepL_cons_cons, bigSepL_singleton]; rfl
  have e10 (Ψ : Fin 10 → sProp 𝕄) : bigSep Finset.univ Ψ = iprop(Ψ 0 ∗ Ψ 1 ∗ Ψ 2 ∗ Ψ 3 ∗ Ψ 4 ∗ Ψ 5 ∗ Ψ 6 ∗ Ψ 7 ∗ Ψ 8 ∗ Ψ 9) := by
    rw [bigSep_univ_eq_bigSepL [0, 1, 2, 3, 4, 5, 6, 7, 8, 9] (by decide) (by decide)]
    simp only [bigSepL_cons_cons, bigSepL_singleton]; rfl
  have h1 : bigSep Finset.univ Φ = bigSep Finset.univ (fun x => Φ (S.equiv x)) := by
    have := bigSep_univ_equiv S.equiv Φ
    first | exact this | exact this.symm
  rw [h1, bigSep_univ_sum, bigSep_univ_prod, bigSep_univ_prod, e6, e10]
  have h2 : ∀ A B C D E G H : sProp 𝕄, iprop((A ∗ B ∗ C ∗ D ∗ E ∗ G) ∗ H) = iprop(A ∗ B ∗ C ∗ D ∗ E ∗ G ∗ H) := by
    intro A B C D E G H
    have i1 : iprop((A ∗ B ∗ C ∗ D ∗ E ∗ G) ∗ H) ⊢ iprop(A ∗ B ∗ C ∗ D ∗ E ∗ G ∗ H) := by
      iintro ⟨⟨H1, H2, H3, H4, H5, H6⟩, H7⟩
      isplitl [H1]; · iexact H1
      isplitl [H2]; · iexact H2
      isplitl [H3]; · iexact H3
      isplitl [H4]; · iexact H4
      isplitl [H5]; · iexact H5
      isplitl [H6] <;> iassumption
    have i2 : iprop(A ∗ B ∗ C ∗ D ∗ E ∗ G ∗ H) ⊢ iprop((A ∗ B ∗ C ∗ D ∗ E ∗ G) ∗ H) := by
      iintro ⟨H1, H2, H3, H4, H5, H6, H7⟩
      isplitr [H7]
      · isplitl [H1]; · iexact H1
        isplitl [H2]; · iexact H2
        isplitl [H3]; · iexact H3
        isplitl [H4]; · iexact H4
        isplitl [H5] <;> iassumption
      iexact H7
    exact BI.Entails.antisymm i1 i2
  exact h2 _ _ _ _ _ _ _

/-- A family over the chunks of a big buffer, quarter by quarter as a device sees them. -/
theorem bigSepQ (c : Dev nD) (Φ : Fin 4 × Fin 8 → sProp 𝕄) : bigSep Finset.univ Φ = iprop(
    (bigSep Finset.univ fun k : Fin 8 => Φ (qm c, k)) ∗ (bigSep Finset.univ fun k : Fin 8 => Φ (qm (xn c), k))
    ∗ (bigSep Finset.univ fun k : Fin 8 => Φ (qm (yn c), k)) ∗ (bigSep Finset.univ fun k : Fin 8 => Φ (qm (yn (xn c)), k))) := by
  rw [bigSep_univ_prod, bigSep_univ_eq_bigSepL [qm c, qm (xn c), qm (yn c), qm (yn (xn c))] (by revert c; decide) (by revert c; decide)]
  simp only [bigSepL_cons_cons, bigSepL_singleton]; rfl

/-- The device of the same z coordinate whose quarter is `q`. -/
def src (c : Dev nD) (q : Fin 4) : Dev nD := if q = qm c then c else if q = qm (xn c) then xn c else if q = qm (yn c) then yn c else yn (xn c)

theorem src_m (c : Dev nD) : src c (qm c) = c := by revert c; decide
theorem src_x (c : Dev nD) : src c (qm (xn c)) = xn c := by revert c; decide
theorem src_y (c : Dev nD) : src c (qm (yn c)) = yn c := by revert c; decide
theorem src_d (c : Dev nD) : src c (qm (yn (xn c))) = yn (xn c) := by revert c; decide

/-- The result's chunk `k` of quarter `q` on a device. -/
def res (c : Dev nD) (q : Fin 4) (k : Fin 8) : S128x1024.Idx → Elt F .f32 := red m (src c q) k

/-! ## The handshake -/

/-- What a device owes at launch: its sends and the three signals. -/
def O₀ (c : Dev nD) : CellTallies nD τ sig Unit := owed c 0 + tallyAt (bar (yn c)) () 1 + tallyAt (bar (xn c)) () 1 + tallyAt (bar (zn c)) () 1

theorem rest_barS (c : Dev nD) : bigSep ((rd (F := F) m).duties ((c : Thread nD τ), SemLoc.reg barS) 0 \ ∅) (fun d => (rd (F := F) m).payload ((c : Thread nD τ), SemLoc.reg barS) 0 d)
    ⊢ iprop(barPay F c 0 ∗ barPay F c 1 ∗ barPay F c 2) := Entails.of_eq (rest_bar m c)
theorem mem_bar (c : Dev nD) (d : Fin 3) : d ∈ (rd (F := F) m).duties ((c : Thread nD τ), SemLoc.reg barS) 0 := by
  have h := duties_bar (F := F) m c
  unfold bar cellAt csem at h; rw [h]; exact Finset.mem_univ _
theorem payload_barS (c : Dev nD) (d : Fin 3) : barPay F c d ⊢ (rd (F := F) m).payload ((c : Thread nD τ), SemLoc.reg barS) 0 d := Entails.of_eq (payload_bar m c d).symm

/-- The three signals hand the neighbours what they are to write here, and the wait brings what is to be written there. -/
theorem handshake_spec (c : Dev nD) (W : Waits sig Unit) (Q : PUnit → sProp 𝕄) :
    iprop(ctx m K ∗ owes (c : Thread nD τ) (O₀ c) W ∗ dutyTok ER (bar (zn c)) 0 0 ∗ dutyTok ER (bar (xn c)) 0 1 ∗ dutyTok ER (bar (yn c)) 0 2
        ∗ barPay F (zn c) 0 ∗ barPay F (xn c) 1 ∗ barPay F (yn c) 2 ∗ cred (tallyAt (bar c) () 3) ∗ atPos ER (bar c) 0 ∅ 0)
      ⊢ iprop(((owe F c 0 ∗ semVal (bar c) 0 ∗ barPay F c 0 ∗ barPay F c 1 ∗ barPay F c 2) -∗ Q ⟨⟩) -∗ Wp c (handshake c) Q) := by
  unfold handshake
  simp only [semSignalWord, semWaitWord, Prog.bind_op, Prog.bind_ret, Prog.pure_eq_ret, dev1, dev2, dev3]
  iintro ⟨#Hctx, Ho, T0, T1, T2, B0, B1, B2, Hc, Hat⟩ Hk
  iapply (Rounds.wp_signal 𝒱₀ ER (rd m) (c : Thread nD τ) none (dst := (zn c : Thread nD τ)) (κ := K (zn c, none))
      (d := 0) (mem_bar m (zn c) 0) ((amount_bar m (zn c) 0).trans (by decide)) () (owed c 0 + tallyAt (bar (yn c)) () 1 + tallyAt (bar (xn c)) () 1) rfl) $$ [Ho T0 B0]
  · isplitr; · iapply (ctx_inv m K (zn c, none)); iexact Hctx
    isplitl [Ho]; · iexact Ho
    isplitl [T0]; · iexact T0
    isplitl [B0]; · iapply (payload_barS m (zn c) 0); iexact B0
    iapply (ctx_reached m K (zn c, none)); iexact Hctx
  iintro Ho
  iapply (Rounds.wp_signal 𝒱₀ ER (rd m) (c : Thread nD τ) none (dst := (xn c : Thread nD τ)) (κ := K (xn c, none))
      (d := 1) (mem_bar m (xn c) 1) ((amount_bar m (xn c) 1).trans (by decide)) () (owed c 0 + tallyAt (bar (yn c)) () 1) rfl) $$ [Ho T1 B1]
  · isplitr; · iapply (ctx_inv m K (xn c, none)); iexact Hctx
    isplitl [Ho]; · iexact Ho
    isplitl [T1]; · iexact T1
    isplitl [B1]; · iapply (payload_barS m (xn c) 1); iexact B1
    iapply (ctx_reached m K (xn c, none)); iexact Hctx
  iintro Ho
  iapply (Rounds.wp_signal 𝒱₀ ER (rd m) (c : Thread nD τ) none (dst := (yn c : Thread nD τ)) (κ := K (yn c, none))
      (d := 2) (mem_bar m (yn c) 2) ((amount_bar m (yn c) 2).trans (by decide)) () (owed c 0) rfl) $$ [Ho T2 B2]
  · isplitr; · iapply (ctx_inv m K (yn c, none)); iexact Hctx
    isplitl [Ho]; · iexact Ho
    isplitl [T2]; · iexact T2
    isplitl [B2]; · iapply (payload_barS m (yn c) 2); iexact B2
    iapply (ctx_reached m K (yn c, none)); iexact Hctx
  iintro Ho
  iapply (Rounds.wp_wait_rest_token 𝒱₀ ER (rd m) (c : Thread nD τ) none (κ := K (c, none))
      (wpE_semWait_eq 𝒱₀ (c : Thread nD τ) none Set.univ) (Set.mem_univ _) () (O := owed c 0) (W := W) (R := 0) (m := 0) (T := ∅)
      (by rw [show ((c : Thread nD τ), SemLoc.reg barS) = bar c from rfl, expect_bar]; decide)) $$ [Hc Ho Hat]
  · isplitr; · iapply (ctx_inv m K (c, none)); iexact Hctx
    isplitl [Hc]; · iexact Hc
    isplitl [Ho]; · iexact Ho
    isplitr
    · iapply (mayWait_owed c none 0 (by rw [lv_bar]; decide)); iapply (ctx_lev m K); iexact Hctx
    iexact Hat
  iintro ⟨Ho, Hat, -, Hpay⟩
  ihave Hp := (rest_barS m c) $$ Hpay
  rw [wp_ret]
  imod (Rounds.cell_close ER (rd m) (Set.mem_univ (K (c, none))) (fun h => h) (R := 0 + 1) (duties_later m (bar c))) $$ [Hat] with Hz
  · isplitr; · iapply (ctx_inv m K (c, none)); iexact Hctx
    iexact Hat
  imodintro
  iapply Hk
  isplitl [Ho]; · unfold owe; iexists _; iexact Ho
  isplitl [Hz]; · iexact Hz
  iexact Hp

end Cert.KernelIdeal.Ring

end
-- ==== Proof.Exchange.lean ====
/-
The loops of the exchange in order, on one device.
-/
module

public import proofs.«01_k».proof.Proof.Shake

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option S → ℕ)

/-- Two families into one. -/
theorem zip2 {n : ℕ} {A B C : Fin n → sProp 𝕄} (h : ∀ i, iprop(A i ∗ B i) ⊢ C i) : iprop(bigSep Finset.univ A ∗ bigSep Finset.univ B) ⊢ bigSep Finset.univ C := by
  have e := bigSep_sep' (Finset.univ : Finset (Fin n)) A B
  rw [← e]
  exact bigSep_mono fun i _ => h i
/-- Three families into one. -/
theorem zip3 {n : ℕ} {A B C D : Fin n → sProp 𝕄} (h : ∀ i, iprop(A i ∗ B i ∗ C i) ⊢ D i) : iprop(bigSep Finset.univ A ∗ bigSep Finset.univ B ∗ bigSep Finset.univ C) ⊢ bigSep Finset.univ D := by
  have e := bigSep_sep' (Finset.univ : Finset (Fin n)) A (fun i => iprop(B i ∗ C i))
  have e' := bigSep_sep' (Finset.univ : Finset (Fin n)) B C
  rw [← e', ← e]
  exact bigSep_mono fun i _ => h i
/-- One family into another. -/
theorem map1 {n : ℕ} {A B : Fin n → sProp 𝕄} (h : ∀ i, A i ⊢ B i) : bigSep Finset.univ A ⊢ bigSep Finset.univ B := bigSep_mono fun i _ => h i
/-- The two halves of a family over eight. -/
theorem joinLH (Φ : Fin 8 → sProp 𝕄) : iprop((bigSep Finset.univ fun j : Fin 4 => Φ (lo j)) ∗ bigSep Finset.univ fun j : Fin 4 => Φ (hi j)) ⊢ bigSep Finset.univ Φ :=
  Entails.of_eq (bigSep_lo_hi Φ).symm
theorem splitLH (Φ : Fin 8 → sProp 𝕄) : bigSep Finset.univ Φ ⊢ iprop((bigSep Finset.univ fun j : Fin 4 => Φ (lo j)) ∗ bigSep Finset.univ fun j : Fin 4 => Φ (hi j)) :=
  Entails.of_eq (bigSep_lo_hi Φ)

/-- A name's credit where a neighbour pays it. -/
def crd₀ (F : FTy → Type) [FloatOps F] (c : Dev nD) (s : S) : sProp (MT nD τ sig Unit (Elt F) ℕ UU ℕ) := if s.ord < 32 then crd F c s else iprop(emp)

theorem crd₀_of (c : Dev nD) (s : S) (h : s.ord < 32) : crd₀ F c s ⊢ crd F c s := Entails.of_eq (if_pos h)

/-- What the loops start from on a device. -/
def exPre (c : Dev nD) : sProp 𝕄 := iprop(
    (bigSep Finset.univ fun k : Fin 8 => own c (xC (qm c) k) fullShare (xv m c (qm c) k)) ∗ (bigSep Finset.univ fun k : Fin 8 => anyOwn F c (sl8 qB k))
    ∗ (bigSep Finset.univ fun k : Fin 8 => anyOwn F c (oC (qm c) k)) ∗ (bigSep Finset.univ fun j : Fin 4 => anyOwn F c (oC (qm (xn c)) (lo j)))
    ∗ (bigSep Finset.univ fun j : Fin 4 => anyOwn F c (oC (qm (yn c)) (hi j)))
    ∗ barPay F c 0 ∗ barPay F c 1 ∗ barPay F c 2
    ∗ (bigSep Finset.univ fun s : S => tk F c s) ∗ (bigSep Finset.univ fun s : S => pos F c s) ∗ (bigSep Finset.univ fun s : S => crd₀ F c s))

/-- What they end with. -/
def exPost (c : Dev nD) : sProp 𝕄 := iprop(
    (bigSep Finset.univ fun s : S => fin F c s)
    ∗ (bigSep Finset.univ fun k : Fin 8 => own c (xC (qm c) k) fullShare (xv m c (qm c) k))
    ∗ (bigSep Finset.univ fun k : Fin 8 => anyOwn F c (sl8 qB k)) ∗ (bigSep Finset.univ fun k : Fin 8 => anyOwn F c (sl8 mB k))
    ∗ (bigSep Finset.univ fun j : Fin 4 => anyOwn F c (sl4 gxB j)) ∗ (bigSep Finset.univ fun j : Fin 4 => anyOwn F c (sl4 gyB j))
    ∗ (bigSep Finset.univ fun k : Fin 8 => own c (oC (qm c) k) fullShare (red m c k)) ∗ (bigSep Finset.univ fun k : Fin 8 => own c (oC (qm (xn c)) k) fullShare (red m (xn c) k))
    ∗ (bigSep Finset.univ fun k : Fin 8 => own c (oC (qm (yn c)) k) fullShare (red m (yn c) k)) ∗ (bigSep Finset.univ fun k : Fin 8 => own c (oC (qm (yn (xn c))) k) fullShare (red m (yn (xn c)) k)))

theorem own_any (c : Dev nD) {sp : Space} (b : Chunk sp) (X : S128x1024.Idx → Elt F .f32) : own c b fullShare X ⊢ anyOwn F c b := by
  unfold anyOwn; iintro H; iexists X; iexact H

/-- The three shares of a sum make its chunk. -/
theorem thirds (c : Dev nD) {sp : Space} (b : Chunk sp) (X : S128x1024.Idx → Elt F .f32) : iprop(own c b shA X ∗ own c b shC X ∗ own c b shD X) ⊢ anyOwn F c b := by
  iintro ⟨H1, H2, H3⟩
  iapply (own_any c b X)
  iapply (halves' c b fullShare X)
  isplitl [H1]; · iexact H1
  iapply (halves' c b fullShare.right X)
  isplitl [H2] <;> iassumption
theorem twoHalves (c : Dev nD) {sp : Space} (b : Chunk sp) (X : S128x1024.Idx → Elt F .f32) : iprop(own c b shA X ∗ own c b shB X) ⊢ anyOwn F c b := by
  iintro ⟨H1, H2⟩
  iapply (own_any c b X)
  iapply (halves' c b fullShare X)
  isplitl [H1] <;> iassumption

set_option maxHeartbeats 4000000 in
/-- The loops in order. -/
theorem exchange_spec (c : Dev nD) (Q₀ : PUnit → sProp 𝕄) :
    iprop(exPre m c ∗ st m K c 0) ⊢ iprop(((exPost m c ∗ st m K c 32) -∗ Q₀ ⟨⟩) -∗ Wp c (exchange c) Q₀) := by
  unfold exPre barPay
  rw [bigSepS (fun s => tk F c s), bigSepS (fun s => pos F c s), bigSepS (fun s => crd₀ F c s)]
  simp only [bigSep_sep']
  iintro ⟨⟨X, Q, Om, OxL, OyH, Mn, ⟨G1, On1, On2⟩, ⟨G2, Oy1, Oy2⟩, ⟨Tzs, Tzr, Txs, Tys, Tlin, Tlred, Txg, Txo, Tyo, Tyg, Tfxs, Tfys, Tfxr, Tfyr, Tlgx, Tlgy⟩, ⟨Pzs, Pzr, Pxs, Pys, Plin, Plred, Pxg, Pxo, Pyo, Pyg, Pfxs, Pfys, Pfxr, Pfyr, Plgx, Plgy⟩, ⟨-, Czr, -, -, -, -, Cxg, Cxo, Cyo, Cyg, -, -, Cfxr, Cfyr, -, -⟩⟩, Hs⟩ Hk
  ihave Czr := (map1 fun j => crd₀_of c (.zr j) (by dsimp only [S.ord]; omega)) $$ Czr
  ihave Cxg := (map1 fun j => crd₀_of c (.xg j) (by dsimp only [S.ord]; omega)) $$ Cxg
  ihave Cxo := (map1 fun j => crd₀_of c (.xo j) (by dsimp only [S.ord]; omega)) $$ Cxo
  ihave Cyo := (map1 fun j => crd₀_of c (.yo j) (by dsimp only [S.ord]; omega)) $$ Cyo
  ihave Cyg := (map1 fun j => crd₀_of c (.yg j) (by dsimp only [S.ord]; omega)) $$ Cyg
  ihave Cfxr := (map1 fun j => crd₀_of c (.fxr j) (by dsimp only [S.ord]; omega)) $$ Cfxr
  ihave Cfyr := (map1 fun j => crd₀_of c (.fyr j) (by dsimp only [S.ord]; omega)) $$ Cfyr
  unfold exchange
  simp only [wp_bind]
  ihave Hs := (show st m K c 0 ⊢ (fun t => st m K c t) 0 from .rfl) $$ Hs
  iapply (wp_seq8 c (zStep c) (fun t => st m K c t) _ _ (fun k => zStep_spec m K c k)) $$ [X Mn Q Tzs Tzr Tlin Hs]
  · isplitr [Hs]
    · simp only [addPre, wpre, bigSep_sep']
      isplitl [X]; · iexact X
      isplitl [Mn]; · iexact Mn
      isplitl [Q]; · iexact Q
      isplitl [Tzs]; · iexact Tzs
      isplitl [Tzr]; · iexact Tzr
      iexact Tlin
    iexact Hs
  simp only [addPost, wpost, bigSep_sep']
  iintro ⟨⟨Czs, Clin⟩, Hs⟩
  ihave Om2 := (splitLH _) $$ Om
  icases Om2 with ⟨OmL, OmH⟩
  ihave Txs2 := (splitLH _) $$ Txs
  icases Txs2 with ⟨TxsL, TxsH⟩
  ihave Tys2 := (splitLH _) $$ Tys
  icases Tys2 with ⟨TysL, TysH⟩
  ihave Tlred2 := (splitLH _) $$ Tlred
  icases Tlred2 with ⟨TlredL, TlredH⟩
  ihave Pzs2 := (splitLH _) $$ Pzs
  icases Pzs2 with ⟨PzsL, PzsH⟩
  ihave Pzr2 := (splitLH _) $$ Pzr
  icases Pzr2 with ⟨PzrL, PzrH⟩
  ihave Pxs2 := (splitLH _) $$ Pxs
  icases Pxs2 with ⟨PxsL, PxsH⟩
  ihave Pys2 := (splitLH _) $$ Pys
  icases Pys2 with ⟨PysL, PysH⟩
  ihave Plin2 := (splitLH _) $$ Plin
  icases Plin2 with ⟨PlinL, PlinH⟩
  ihave Plred2 := (splitLH _) $$ Plred
  icases Plred2 with ⟨PlredL, PlredH⟩
  ihave Czr2 := (splitLH _) $$ Czr
  icases Czr2 with ⟨CzrL, CzrH⟩
  ihave Czs2 := (splitLH _) $$ Czs
  icases Czs2 with ⟨CzsL, CzsH⟩
  ihave Clin2 := (splitLH _) $$ Clin
  icases Clin2 with ⟨ClinL, ClinH⟩
  ihave Hs := (show (fun t => st m K c t) 8 ⊢ (fun t => st m K c (8 + 2 * t)) 0 from .rfl) $$ Hs
  iapply (wp_seq4 c (loStep c) (fun t => st m K c (8 + 2 * t)) _ _ (fun j => loStep_spec m K c j)) $$ [PlinL ClinL PzrL CzrL OmL TlredL G1 Oy1 TxsL Txg TysL Tyo Hs]
  · isplitr [Hs]
    · simp only [addPre, wpre, bigSep_sep']
      isplitl [PlinL ClinL PzrL CzrL OmL TlredL]
      · isplitl [PlinL]; · iexact PlinL
        isplitl [ClinL]; · iexact ClinL
        isplitl [PzrL]; · iexact PzrL
        isplitl [CzrL]; · iexact CzrL
        isplitl [OmL]; · iexact OmL
        iexact TlredL
      isplitl [G1]; · iexact G1
      isplitl [Oy1]; · iexact Oy1
      isplitl [TxsL]; · iexact TxsL
      isplitl [Txg]; · iexact Txg
      isplitl [TysL]; · iexact TysL
      iexact Tyo
    iexact Hs
  simp only [addPost, wpost, bigSep_sep']
  iintro ⟨⟨AL, CxsL, CysL⟩, Hs⟩
  ihave Hs := (show (fun t => st m K c (8 + 2 * t)) 4 ⊢ (fun t => st m K c (16 + 2 * t)) 0 from .rfl) $$ Hs
  iapply (wp_seq4 c (hiStep c) (fun t => st m K c (16 + 2 * t)) _ _ (fun j => hiStep_spec m K c j)) $$ [PlinH ClinH PzrH CzrH OmH TlredH On1 G2 TxsH Txo TysH Tyg Hs]
  · isplitr [Hs]
    · simp only [addPre, wpre, bigSep_sep']
      isplitl [PlinH ClinH PzrH CzrH OmH TlredH]
      · isplitl [PlinH]; · iexact PlinH
        isplitl [ClinH]; · iexact ClinH
        isplitl [PzrH]; · iexact PzrH
        isplitl [CzrH]; · iexact CzrH
        isplitl [OmH]; · iexact OmH
        iexact TlredH
      isplitl [On1]; · iexact On1
      isplitl [G2]; · iexact G2
      isplitl [TxsH]; · iexact TxsH
      isplitl [Txo]; · iexact Txo
      isplitl [TysH]; · iexact TysH
      iexact Tyg
    iexact Hs
  simp only [addPost, wpost, bigSep_sep']
  iintro ⟨⟨AH, CxsH, CysH⟩, Hs⟩
  ihave Hs := (show (fun t => st m K c (16 + 2 * t)) 4 ⊢ (fun t => st m K c (24 + t)) 0 from .rfl) $$ Hs
  iapply (wp_seq4 c (fyStep c) (fun t => st m K c (24 + t)) _ _ (fun j => fyStep_spec m K c j)) $$ [Pxg Cxg Oy2 OxL Tfys Tfyr Tlgx Hs]
  · isplitr [Hs]
    · simp only [addPre, wpre, bigSep_sep']
      isplitl [Pxg]; · iexact Pxg
      isplitl [Cxg]; · iexact Cxg
      isplitl [Oy2]; · iexact Oy2
      isplitl [OxL]; · iexact OxL
      isplitl [Tfys]; · iexact Tfys
      isplitl [Tfyr]; · iexact Tfyr
      iexact Tlgx
    iexact Hs
  simp only [addPost, wpost, bigSep_sep']
  iintro ⟨⟨Zxg, Cfys, Clgx⟩, Hs⟩
  ihave Hs := (show (fun t => st m K c (24 + t)) 4 ⊢ (fun t => st m K c (28 + t)) 0 from .rfl) $$ Hs
  iapply (wp_seq4 c (fxStep c) (fun t => st m K c (28 + t)) _ _ (fun j => fxStep_spec m K c j)) $$ [Pyg Cyg On2 OyH Tfxs Tfxr Tlgy Hs]
  · isplitr [Hs]
    · simp only [addPre, wpre, bigSep_sep']
      isplitl [Pyg]; · iexact Pyg
      isplitl [Cyg]; · iexact Cyg
      isplitl [On2]; · iexact On2
      isplitl [OyH]; · iexact OyH
      isplitl [Tfxs]; · iexact Tfxs
      isplitl [Tfxr]; · iexact Tfxr
      iexact Tlgy
    iexact Hs
  simp only [addPost, wpost, bigSep_sep']
  iintro ⟨⟨Zyg, Cfxs, Clgy⟩, Hs⟩
  ihave Hs := (show (fun t => st m K c (28 + t)) 4 ⊢ (fun _ => st m K c 32) 0 from .rfl) $$ Hs
  iapply (wp_seq4 c _ (fun _ => st m K c 32) _ _ (fun j => wait1_spec m K c (.xo j) _ _)) $$ [Pxo Cxo Hs]
  · isplitr [Hs]
    · simp only [addPre, wpre, bigSep_sep']
      isplitl [Pxo]; · iexact Pxo
      iexact Cxo
    iexact Hs
  simp only [addPost, wpost, bigSep_sep']
  iintro ⟨⟨Zxo, Dxo⟩, Hs⟩
  ihave Hs := (show (fun _ => st m K c 32) 4 ⊢ (fun _ => st m K c 32) 0 from .rfl) $$ Hs
  iapply (wp_seq4 c _ (fun _ => st m K c 32) _ _ (fun j => wait1_spec m K c (.yo j) _ _)) $$ [Pyo Cyo Hs]
  · isplitr [Hs]
    · simp only [addPre, wpre, bigSep_sep']
      isplitl [Pyo]; · iexact Pyo
      iexact Cyo
    iexact Hs
  simp only [addPost, wpost, bigSep_sep']
  iintro ⟨⟨Zyo, Dyo⟩, Hs⟩
  ihave Hs := (show (fun _ => st m K c 32) 4 ⊢ (fun _ => st m K c 32) 0 from .rfl) $$ Hs
  iapply (wp_seq4 c _ (fun _ => st m K c 32) _ _ (fun j => wait1_spec m K c (.fxr j) _ _)) $$ [Pfxr Cfxr Hs]
  · isplitr [Hs]
    · simp only [addPre, wpre, bigSep_sep']
      isplitl [Pfxr]; · iexact Pfxr
      iexact Cfxr
    iexact Hs
  simp only [addPost, wpost, bigSep_sep']
  iintro ⟨⟨Zfxr, Dfxr⟩, Hs⟩
  ihave Hs := (show (fun _ => st m K c 32) 4 ⊢ (fun _ => st m K c 32) 0 from .rfl) $$ Hs
  iapply (wp_seq4 c _ (fun _ => st m K c 32) _ _ (fun j => wait1_spec m K c (.fyr j) _ _)) $$ [Pfyr Cfyr Hs]
  · isplitr [Hs]
    · simp only [addPre, wpre, bigSep_sep']
      isplitl [Pfyr]; · iexact Pfyr
      iexact Cfyr
    iexact Hs
  simp only [addPost, wpost, bigSep_sep']
  iintro ⟨⟨Zfyr, Dfyr⟩, Hs⟩
  icases AL with ⟨ZlinL, ZzrL, QL, XL, ClredL⟩
  icases AH with ⟨ZlinH, ZzrH, QH, XH, ClredH⟩
  ihave Hs := (show (fun _ => st m K c 32) 4 ⊢ (fun _ => st m K c 32) 0 from .rfl) $$ Hs
  iapply (wp_seq4 c (loDrain c) (fun _ => st m K c 32) _ _ (fun j => loDrain_spec m K c j)) $$ [PzsL CzsL PxsL CxsL PysL CysL PlredL ClredL Hs]
  · isplitr [Hs]
    · simp only [addPre, wpre, bigSep_sep']
      isplitl [PzsL CzsL]
      · isplitl [PzsL]; · iexact PzsL
        iexact CzsL
      isplitl [PxsL CxsL]
      · isplitl [PxsL]; · iexact PxsL
        iexact CxsL
      isplitl [PysL CysL]
      · isplitl [PysL]; · iexact PysL
        iexact CysL
      isplitl [PlredL]; · iexact PlredL
      iexact ClredL
    iexact Hs
  simp only [addPost, wpost, bigSep_sep']
  iintro ⟨⟨⟨ZzsL, DzsL⟩, ⟨ZxsL, DxsL⟩, ⟨ZysL, DysL⟩, ⟨ZlredL, DlredL⟩⟩, Hs⟩
  ihave Hs := (show (fun _ => st m K c 32) 4 ⊢ (fun _ => st m K c 32) 0 from .rfl) $$ Hs
  iapply (wp_seq4 c (hiDrain c) (fun _ => st m K c 32) _ _ (fun j => hiDrain_spec m K c j)) $$ [PzsH CzsH PxsH CxsH PysH CysH PlredH ClredH Hs]
  · isplitr [Hs]
    · simp only [addPre, wpre, bigSep_sep']
      isplitl [PzsH CzsH]
      · isplitl [PzsH]; · iexact PzsH
        iexact CzsH
      isplitl [PxsH CxsH]
      · isplitl [PxsH]; · iexact PxsH
        iexact CxsH
      isplitl [PysH CysH]
      · isplitl [PysH]; · iexact PysH
        iexact CysH
      isplitl [PlredH]; · iexact PlredH
      iexact ClredH
    iexact Hs
  simp only [addPost, wpost, bigSep_sep']
  iintro ⟨⟨⟨ZzsH, DzsH⟩, ⟨ZxsH, DxsH⟩, ⟨ZysH, DysH⟩, ⟨ZlredH, DlredH⟩⟩, Hs⟩
  ihave Hs := (show (fun _ => st m K c 32) 4 ⊢ (fun _ => st m K c 32) 0 from .rfl) $$ Hs
  iapply (wp_seq4 c (relayDrain c) (fun _ => st m K c 32) _ _ (fun j => relayDrain_spec m K c j)) $$ [Pfxs Cfxs Pfys Cfys Plgx Clgx Plgy Clgy Hs]
  · isplitr [Hs]
    · simp only [addPre, wpre, bigSep_sep']
      isplitl [Pfxs Cfxs]
      · isplitl [Pfxs]; · iexact Pfxs
        iexact Cfxs
      isplitl [Pfys Cfys]
      · isplitl [Pfys]; · iexact Pfys
        iexact Cfys
      isplitl [Plgx Clgx]
      · isplitl [Plgx]; · iexact Plgx
        iexact Clgx
      isplitl [Plgy]; · iexact Plgy
      iexact Clgy
    iexact Hs
  simp only [addPost, wpost, bigSep_sep']
  iintro ⟨⟨⟨Zfxs, Dfxs⟩, ⟨Zfys, Dfys⟩, ⟨Zlgx, Dlgx⟩, ⟨Zlgy, Dlgy⟩⟩, Hs⟩
  unfold pay
  simp only [bigSep_sep']
  icases DlredL with ⟨RmL, MaL⟩
  icases DlredH with ⟨RmH, MaH⟩
  icases Dlgx with ⟨RxL, GxB⟩
  icases Dlgy with ⟨RyH, GyB⟩
  iapply Hk
  isplitr [Hs]; swap; · iexact Hs
  unfold exPost
  rw [bigSepS (fun s => fin F c s)]
  isplitl [ZzsL ZzsH ZzrL ZzrH ZxsL ZxsH ZysL ZysH ZlinL ZlinH ZlredL ZlredH Zxg Zxo Zyo Zyg Zfxs Zfys Zfxr Zfyr Zlgx Zlgy]
  · isplitl [ZzsL ZzsH]; · iapply (joinLH (fun k => fin F c (.zs k))); isplitl [ZzsL] <;> iassumption
    isplitl [ZzrL ZzrH]; · iapply (joinLH (fun k => fin F c (.zr k))); isplitl [ZzrL] <;> iassumption
    isplitl [ZxsL ZxsH]; · iapply (joinLH (fun k => fin F c (.xs k))); isplitl [ZxsL] <;> iassumption
    isplitl [ZysL ZysH]; · iapply (joinLH (fun k => fin F c (.ys k))); isplitl [ZysL] <;> iassumption
    isplitl [ZlinL ZlinH]; · iapply (joinLH (fun k => fin F c (.lin k))); isplitl [ZlinL] <;> iassumption
    isplitl [ZlredL ZlredH]; · iapply (joinLH (fun k => fin F c (.lred k))); isplitl [ZlredL] <;> iassumption
    isplitl [Zxg]; · iexact Zxg
    isplitl [Zxo]; · iexact Zxo
    isplitl [Zyo]; · iexact Zyo
    isplitl [Zyg]; · iexact Zyg
    isplitl [Zfxs]; · iexact Zfxs
    isplitl [Zfys]; · iexact Zfys
    isplitl [Zfxr]; · iexact Zfxr
    isplitl [Zfyr]; · iexact Zfyr
    isplitl [Zlgx]; · iexact Zlgx
    iexact Zlgy
  isplitl [XL XH DzsL DzsH]
  · iapply (joinLH (fun k => own c (xC (qm c) k) fullShare (xv m c (qm c) k)))
    isplitl [XL DzsL]
    · iapply (zip2 fun j => halves' c _ fullShare _)
      isplitl [DzsL]; · iexact DzsL
      iexact XL
    iapply (zip2 fun j => halves' c _ fullShare _)
    isplitl [DzsH]; · iexact DzsH
    iexact XH
  isplitl [QL QH]; · iapply (joinLH (fun k => anyOwn F c (sl8 qB k))); isplitl [QL] <;> iassumption
  isplitl [MaL MaH DxsL DxsH DysL DysH]
  · iapply (joinLH (fun k => anyOwn F c (sl8 mB k)))
    isplitl [MaL DxsL DysL]
    · iapply (zip3 fun j => thirds c (sl8 mB (lo j)) (red m c (lo j)))
      isplitl [MaL]; · iexact MaL
      isplitl [DxsL] <;> iassumption
    iapply (zip3 fun j => thirds c (sl8 mB (hi j)) (red m c (hi j)))
    isplitl [MaH]; · iexact MaH
    isplitl [DxsH] <;> iassumption
  isplitl [Dfys GxB]; · iapply (zip2 fun j => twoHalves c (sl4 gxB j) (red m (xn c) (lo j))); isplitl [Dfys] <;> iassumption
  isplitl [Dfxs GyB]; · iapply (zip2 fun j => twoHalves c (sl4 gyB j) (red m (yn c) (hi j))); isplitl [Dfxs] <;> iassumption
  isplitl [RmL RmH]; · iapply (joinLH (fun k => own c (oC (qm c) k) fullShare (red m c k))); isplitl [RmL] <;> iassumption
  isplitl [RxL Dxo]; · iapply (joinLH (fun k => own c (oC (qm (xn c)) k) fullShare (red m (xn c) k))); isplitl [RxL] <;> iassumption
  isplitl [Dyo RyH]; · iapply (joinLH (fun k => own c (oC (qm (yn c)) k) fullShare (red m (yn c) k))); isplitl [Dyo] <;> iassumption
  iapply (joinLH (fun k => own c (oC (qm (yn (xn c))) k) fullShare (red m (yn (xn c)) k))); isplitl [Dfyr] <;> iassumption

end Cert.KernelIdeal.Ring

end
-- ==== Proof.Cut.lean ====
/-
Whole buffers cut into the chunks of the exchange and put back, and the result's contents.
-/
module

public import proofs.«01_k».proof.Proof.Exchange
public import Idealize.ShloMosaic.Lib.Pipeline.Value

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option S → ℕ)

/-! ## The row ranges -/

theorem emb_mem {s : Shape} (r : Rect s) (y : r.shape.Idx) : r.emb y ∈ r.set := by rw [← Rect.map_emb_univ]; exact Finset.mem_map_of_mem _ (Finset.mem_univ y)

theorem rowB {t : Fin 4 × Fin 8} {i : S4096x1024.Idx} (h : i ∈ (rectB t).set) : 1024 * t.1.val + 128 * t.2.val ≤ (i 0).val ∧ (i 0).val < 1024 * t.1.val + 128 * t.2.val + 128 :=
  Rect.mem_set_unit.mp h 0
theorem rowB_iff {t : Fin 4 × Fin 8} {i : S4096x1024.Idx} (h1 : 1024 * t.1.val + 128 * t.2.val ≤ (i 0).val) (h2 : (i 0).val < 1024 * t.1.val + 128 * t.2.val + 128) : i ∈ (rectB t).set :=
  Rect.mem_set_unit.mpr fun a => by
    fin_cases a
    · exact ⟨h1, h2⟩
    · exact ⟨Nat.zero_le _, by have h : (i 1).val < 1024 := (i 1).isLt; show (i 1).val < 0 + 1024; omega⟩
theorem dB (t t' : Fin 4 × Fin 8) (h : t ≠ t') : Disjoint (rectB t).set (rectB t').set := by
  rw [Finset.disjoint_left]
  intro i h1 h2
  have a := rowB h1
  have b := rowB h2
  have := t.2.isLt
  have := t'.2.isLt
  exact h (Prod.ext (Fin.ext (by omega)) (Fin.ext (by omega)))
theorem cB : Finset.univ.biUnion (fun t => (rectB t).set) = Finset.univ := by
  refine Finset.eq_univ_of_forall fun i => ?_
  have h : (i 0).val < 4096 := (i 0).isLt
  refine Finset.mem_biUnion.mpr ⟨(⟨(i 0).val / 1024, by omega⟩, ⟨(i 0).val % 1024 / 128, by omega⟩), Finset.mem_univ _, rowB_iff ?_ ?_⟩
  · show 1024 * ((i 0).val / 1024) + 128 * ((i 0).val % 1024 / 128) ≤ (i 0).val; omega
  · show (i 0).val < 1024 * ((i 0).val / 1024) + 128 * ((i 0).val % 1024 / 128) + 128; omega

theorem d8 (t t' : Fin 8) (h : t ≠ t') : Disjoint (rect8 t).set (rect8 t').set := by
  rw [Finset.disjoint_left]
  intro i h1 h2
  have a : 128 * t.val ≤ (i 0).val ∧ (i 0).val < 128 * t.val + 128 := Rect.mem_set_unit.mp h1 0
  have b : 128 * t'.val ≤ (i 0).val ∧ (i 0).val < 128 * t'.val + 128 := Rect.mem_set_unit.mp h2 0
  exact h (Fin.ext (by omega))
theorem c8 : Finset.univ.biUnion (fun t => (rect8 t).set) = Finset.univ := by
  refine Finset.eq_univ_of_forall fun i => ?_
  have h : (i 0).val < 1024 := (i 0).isLt
  refine Finset.mem_biUnion.mpr ⟨⟨(i 0).val / 128, by omega⟩, Finset.mem_univ _, Rect.mem_set_unit.mpr fun a => ?_⟩
  fin_cases a
  · exact ⟨by show 128 * ((i 0).val / 128) ≤ (i 0).val; omega, by show (i 0).val < 128 * ((i 0).val / 128) + 128; omega⟩
  · exact ⟨Nat.zero_le _, by have h : (i 1).val < 1024 := (i 1).isLt; show (i 1).val < 0 + 1024; omega⟩
theorem d4 (t t' : Fin 4) (h : t ≠ t') : Disjoint (rect4 t).set (rect4 t').set := by
  rw [Finset.disjoint_left]
  intro i h1 h2
  have a : 128 * t.val ≤ (i 0).val ∧ (i 0).val < 128 * t.val + 128 := Rect.mem_set_unit.mp h1 0
  have b : 128 * t'.val ≤ (i 0).val ∧ (i 0).val < 128 * t'.val + 128 := Rect.mem_set_unit.mp h2 0
  exact h (Fin.ext (by omega))
theorem c4 : Finset.univ.biUnion (fun t => (rect4 t).set) = Finset.univ := by
  refine Finset.eq_univ_of_forall fun i => ?_
  have h : (i 0).val < 512 := (i 0).isLt
  refine Finset.mem_biUnion.mpr ⟨⟨(i 0).val / 128, by omega⟩, Finset.mem_univ _, Rect.mem_set_unit.mpr fun a => ?_⟩
  fin_cases a
  · exact ⟨by show 128 * ((i 0).val / 128) ≤ (i 0).val; omega, by show (i 0).val < 128 * ((i 0).val / 128) + 128; omega⟩
  · exact ⟨Nat.zero_le _, by have h : (i 1).val < 1024 := (i 1).isLt; show (i 1).val < 0 + 1024; omega⟩

/-! ## Cutting and joining -/

/-- A family of chunks at some contents is the memref at some contents. -/
theorem any_join {T : Type} [Fintype T] [DecidableEq T] {sp : Space} {sh : Shape} (c : Dev nD) (b : Memref sig .tc sp sh .f32) (r : T → Rect sh) (hr : ∀ t a, (r t).stride a = 1)
    (hd : ∀ t t', t ≠ t' → Disjoint (r t).set (r t').set) (hcov : Finset.univ.biUnion (fun t => (r t).set) = Finset.univ) :
    (bigSep Finset.univ fun t => iprop(∃ X, owns (c : Thread nD τ) (b.slice (r t) (hr t)) fullShare X)) ⊢ (iprop(∃ X, owns (c : Thread nD τ) b fullShare X) : sProp 𝕄) := by
  haveI hne : ∀ e, Nonempty (Elt F e) := Elt.nonempty F
  have h1 := bigSep_exists_pi Finset.univ (fun (t : T) (X : (r t).shape.Idx → Elt F .f32) => (owns (c : Thread nD τ) (b.slice (r t) (hr t)) fullShare X : sProp 𝕄))
  iintro H
  ihave H := h1 $$ H
  icases H with ⟨%Y, H⟩
  have hX : ∃ X : sh.Idx → Elt F .f32, ∀ t j, X ((r t).emb j) = Y t j := by
    classical
    refine ⟨fun i => if h : ∃ t j, (r t).emb j = i then Y h.choose h.choose_spec.choose else Classical.arbitrary _, fun t j => ?_⟩
    have h : ∃ t' j', (r t').emb j' = (r t).emb j := ⟨t, j, rfl⟩
    show (if h : ∃ t' j', (r t').emb j' = (r t).emb j then Y h.choose h.choose_spec.choose else Classical.arbitrary _) = Y t j
    rw [dif_pos h]
    have e := h.choose_spec.choose_spec
    by_cases ht : h.choose = t
    · generalize h.choose_spec.choose = j' at e
      revert j' e
      rw [ht]
      intro j' e
      rw [(r t).emb.injective e]
    · refine absurd (Finset.disjoint_left.mp (hd _ _ ht) (emb_mem (r h.choose) h.choose_spec.choose)) ?_
      rw [e]; exact fun h' => h' (emb_mem (r t) j)
  obtain ⟨X, hX⟩ := hX
  iexists X
  iapply (owns_of_rects (c : Thread nD τ) b fullShare r hr hd hcov X)
  rw [show (fun t => (owns (c : Thread nD τ) (b.slice (r t) (hr t)) fullShare (fun j => X ((r t).emb j)) : sProp 𝕄)) = fun t => owns (c : Thread nD τ) (b.slice (r t) (hr t)) fullShare (Y t) from
    funext fun t => by rw [show (fun j => X ((r t).emb j)) = Y t from funext fun j => hX t j]]
  iexact H

/-- A memref at some contents is its chunks at some contents. -/
theorem any_cut {T : Type} [Fintype T] [DecidableEq T] {sp : Space} {sh : Shape} (c : Dev nD) (b : Memref sig .tc sp sh .f32) (r : T → Rect sh) (hr : ∀ t a, (r t).stride a = 1)
    (hd : ∀ t t', t ≠ t' → Disjoint (r t).set (r t').set) (hcov : Finset.univ.biUnion (fun t => (r t).set) = Finset.univ) :
    (iprop(∃ X, owns (c : Thread nD τ) b fullShare X) : sProp 𝕄) ⊢ (bigSep Finset.univ fun t => iprop(∃ X, owns (c : Thread nD τ) (b.slice (r t) (hr t)) fullShare X)) := by
  iintro ⟨%X, H⟩
  ihave H := (owns_rects (c : Thread nD τ) b fullShare r hr hd hcov X) $$ H
  have h : (bigSep Finset.univ fun t => (owns (c : Thread nD τ) (b.slice (r t) (hr t)) fullShare (fun j => X ((r t).emb j)) : sProp 𝕄)) ⊢ bigSep Finset.univ fun t => iprop(∃ X, owns (c : Thread nD τ) (b.slice (r t) (hr t)) fullShare X) :=
    bigSep_mono fun t _ => by
      have h' (Y : (r t).shape.Idx → Elt F .f32) : (owns (c : Thread nD τ) (b.slice (r t) (hr t)) fullShare Y : sProp 𝕄) ⊢ iprop(∃ X, owns (c : Thread nD τ) (b.slice (r t) (hr t)) fullShare X) := by
        iintro H; iexists Y; iexact H
      exact h' _
  iapply h; iexact H

/-- A buffer at some contents. -/
abbrev anyBuf (F : FTy → Type) [FloatOps F] (c : Dev nD) (b : Ref sig .tc) : sProp (MT nD τ sig Unit (Elt F) ℕ UU ℕ) := iprop(∃ f : Buf (Elt F) ((c : Thread nD τ).loc b), ((c : Thread nD τ).loc b) ↦{fullShare} f)

theorem cut_q (c : Dev nD) : anyBuf F c cc0_scratch0 ⊢ bigSep Finset.univ fun t : Fin 8 => anyOwn F c (sl8 qB t) := by
  iintro ⟨%f, H⟩
  iapply (any_cut (F := F) c qB rect8 (fun _ _ => rfl) d8 c8)
  iexists f
  iapply (Entails.of_eq (owns_whole (c : Thread nD τ) cc0_scratch0 fullShare f).symm); iexact H
theorem join_q (c : Dev nD) : (bigSep Finset.univ fun t : Fin 8 => anyOwn F c (sl8 qB t)) ⊢ anyBuf F c cc0_scratch0 := by
  have h := any_join (F := F) c qB rect8 (fun _ _ => rfl) d8 c8
  iintro H
  ihave H := (show (bigSep Finset.univ fun t : Fin 8 => anyOwn F c (sl8 qB t)) ⊢ (iprop(∃ X, owns (c : Thread nD τ) qB fullShare X) : sProp 𝕄) from h) $$ H
  icases H with ⟨%X, H⟩
  iexists X
  iapply (Entails.of_eq (owns_whole (c : Thread nD τ) cc0_scratch0 fullShare X)); iexact H
theorem cut_m (c : Dev nD) : anyBuf F c cc0_scratch1 ⊢ bigSep Finset.univ fun t : Fin 8 => anyOwn F c (sl8 mB t) := by
  iintro ⟨%f, H⟩
  iapply (any_cut (F := F) c mB rect8 (fun _ _ => rfl) d8 c8)
  iexists f
  iapply (Entails.of_eq (owns_whole (c : Thread nD τ) cc0_scratch1 fullShare f).symm); iexact H
theorem join_m (c : Dev nD) : (bigSep Finset.univ fun t : Fin 8 => anyOwn F c (sl8 mB t)) ⊢ anyBuf F c cc0_scratch1 := by
  have h := any_join (F := F) c mB rect8 (fun _ _ => rfl) d8 c8
  iintro H
  ihave H := (show (bigSep Finset.univ fun t : Fin 8 => anyOwn F c (sl8 mB t)) ⊢ (iprop(∃ X, owns (c : Thread nD τ) mB fullShare X) : sProp 𝕄) from h) $$ H
  icases H with ⟨%X, H⟩
  iexists X
  iapply (Entails.of_eq (owns_whole (c : Thread nD τ) cc0_scratch1 fullShare X)); iexact H
theorem cut_gx (c : Dev nD) : anyBuf F c cc0_scratch2 ⊢ bigSep Finset.univ fun t : Fin 4 => anyOwn F c (sl4 gxB t) := by
  iintro ⟨%f, H⟩
  iapply (any_cut (F := F) c gxB rect4 (fun _ _ => rfl) d4 c4)
  iexists f
  iapply (Entails.of_eq (owns_whole (c : Thread nD τ) cc0_scratch2 fullShare f).symm); iexact H
theorem join_gx (c : Dev nD) : (bigSep Finset.univ fun t : Fin 4 => anyOwn F c (sl4 gxB t)) ⊢ anyBuf F c cc0_scratch2 := by
  have h := any_join (F := F) c gxB rect4 (fun _ _ => rfl) d4 c4
  iintro H
  ihave H := (show (bigSep Finset.univ fun t : Fin 4 => anyOwn F c (sl4 gxB t)) ⊢ (iprop(∃ X, owns (c : Thread nD τ) gxB fullShare X) : sProp 𝕄) from h) $$ H
  icases H with ⟨%X, H⟩
  iexists X
  iapply (Entails.of_eq (owns_whole (c : Thread nD τ) cc0_scratch2 fullShare X)); iexact H
theorem cut_gy (c : Dev nD) : anyBuf F c cc0_scratch3 ⊢ bigSep Finset.univ fun t : Fin 4 => anyOwn F c (sl4 gyB t) := by
  iintro ⟨%f, H⟩
  iapply (any_cut (F := F) c gyB rect4 (fun _ _ => rfl) d4 c4)
  iexists f
  iapply (Entails.of_eq (owns_whole (c : Thread nD τ) cc0_scratch3 fullShare f).symm); iexact H
theorem join_gy (c : Dev nD) : (bigSep Finset.univ fun t : Fin 4 => anyOwn F c (sl4 gyB t)) ⊢ anyBuf F c cc0_scratch3 := by
  have h := any_join (F := F) c gyB rect4 (fun _ _ => rfl) d4 c4
  iintro H
  ihave H := (show (bigSep Finset.univ fun t : Fin 4 => anyOwn F c (sl4 gyB t)) ⊢ (iprop(∃ X, owns (c : Thread nD τ) gyB fullShare X) : sProp 𝕄) from h) $$ H
  icases H with ⟨%X, H⟩
  iexists X
  iapply (Entails.of_eq (owns_whole (c : Thread nD τ) cc0_scratch3 fullShare X)); iexact H
theorem cut_o (c : Dev nD) : anyBuf F c main_v1 ⊢ bigSep Finset.univ fun t : Fin 4 × Fin 8 => anyOwn F c (oC t.1 t.2) := by
  iintro ⟨%f, H⟩
  iapply (any_cut (F := F) c oB rectB (fun _ _ => rfl) dB cB)
  iexists f
  iapply (Entails.of_eq (owns_whole (c : Thread nD τ) main_v1 fullShare f).symm); iexact H

/-- The operand's chunks, taken from the whole. -/
theorem cut_x (c : Dev nD) : (((c : Thread nD τ).loc main_arg0) ↦{fullShare} m ((c : Thread nD τ).loc main_arg0)) ⊢ bigSep Finset.univ fun t : Fin 4 × Fin 8 => own c (xC t.1 t.2) fullShare (xv m c t.1 t.2) := by
  have h := owns_rects (c : Thread nD τ) xB fullShare rectB (fun _ _ => rfl) dB cB (m ((c : Thread nD τ).loc main_arg0)) (Ix := Unit) (Name := ℕ) (U := UU) (Lvl := ℕ) (Val := Elt F)
  rw [owns_whole] at h
  exact h
theorem join_x (c : Dev nD) : (bigSep Finset.univ fun t : Fin 4 × Fin 8 => own c (xC t.1 t.2) fullShare (xv m c t.1 t.2)) ⊢ (((c : Thread nD τ).loc main_arg0) ↦{fullShare} m ((c : Thread nD τ).loc main_arg0)) := by
  have h := owns_of_rects (c : Thread nD τ) xB fullShare rectB (fun _ _ => rfl) dB cB (m ((c : Thread nD τ).loc main_arg0)) (Ix := Unit) (Name := ℕ) (U := UU) (Lvl := ℕ) (Val := Elt F)
  rw [owns_whole] at h
  exact h

/-! ## The result -/

/-- The quarter of a row. -/
def qtr (i : S4096x1024.Idx) : Fin 4 := ⟨(i 0).val / 1024, by have h : (i 0).val < 4096 := (i 0).isLt; omega⟩
/-- The result on a device: each entry the sum of the entries of the two devices its quarter is reduced on. -/
def outF (c : Dev nD) : S4096x1024.Idx → Elt F .f32 := fun i =>
  FloatOps.addf (m ((src c (qtr i) : Thread nD τ).loc main_arg0) i : F .f32) (m ((zn (src c (qtr i)) : Thread nD τ).loc main_arg0) i)

theorem qm_src (c : Dev nD) (q : Fin 4) : qm (src c q) = q := by revert c q; decide

theorem qtr_emb (t : Fin 4 × Fin 8) (j : S128x1024.Idx) : qtr ((rectB t).emb j) = t.1 := by
  have h := rowB (emb_mem (rectB t) j)
  have := t.2.isLt
  apply Fin.ext
  show ((rectB t).emb j 0).val / 1024 = t.1.val
  omega

theorem pay_apply (X Y : S128x1024.Idx → Elt F .f32) (j : S128x1024.Idx) : k0_pay1 X Y j = FloatOps.addf (X j : F .f32) (Y j) := by
  unfold k0_pay1
  rw [shapeCast_self]; rfl

theorem out_emb (c : Dev nD) (t : Fin 4 × Fin 8) : (fun j => outF m c ((rectB t).emb j)) = res m c t.1 t.2 := by
  funext j
  unfold outF res red
  rw [pay_apply, qm_src, qtr_emb]
  rfl

theorem join_out (c : Dev nD) : (bigSep Finset.univ fun t : Fin 4 × Fin 8 => own c (oC t.1 t.2) fullShare (res m c t.1 t.2)) ⊢ (((c : Thread nD τ).loc main_v1) ↦{fullShare} outF m c) := by
  have h := owns_of_rects (c : Thread nD τ) oB fullShare rectB (fun _ _ => rfl) dB cB (outF m c) (Ix := Unit) (Name := ℕ) (U := UU) (Lvl := ℕ) (Val := Elt F)
  rw [owns_whole] at h
  simp only [out_emb] at h
  exact h

end Cert.KernelIdeal.Ring

end
-- ==== Proof.Body.lean ====
/-
One device's whole run: from its buffers and rights to its buffers with the result.
-/
module

public import proofs.«01_k».proof.Proof.Cut

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option S → ℕ)

/-- What a device enters with besides the scratch: the shared records, its rights to wait and to pay, its credits, its two arrays. -/
def rights (c : Dev nD) : sProp 𝕄 := iprop(
    (bigSep Finset.univ fun s : S => tk F c s) ∗ (bigSep Finset.univ fun s : S => pos F c s) ∗ (bigSep Finset.univ fun s : S => crd₀ F c s)
    ∗ dutyTok ER (bar (zn c)) 0 0 ∗ dutyTok ER (bar (xn c)) 0 1 ∗ dutyTok ER (bar (yn c)) 0 2 ∗ cred (tallyAt (bar c) () 3) ∗ atPos ER (bar c) 0 ∅ 0)

/-- The scratch buffers at some contents. -/
def scratch (F : FTy → Type) [FloatOps F] (c : Dev nD) : sProp (MT nD τ sig Unit (Elt F) ℕ UU ℕ) :=
  iprop(anyBuf F c cc0_scratch0 ∗ anyBuf F c cc0_scratch1 ∗ anyBuf F c cc0_scratch2 ∗ anyBuf F c cc0_scratch3)

/-- Before the run. -/
def Φ₀ (c : Dev nD) : sProp 𝕄 := iprop((∃ K, ctx m K ∗ rights (F := F) c)
    ∗ ((((c : Thread nD τ).loc main_arg0) ↦{fullShare} m ((c : Thread nD τ).loc main_arg0)) ∗ anyBuf F c main_v1) ∗ scratch F c)
/-- After the run. -/
def Φ₁ (c : Dev nD) : sProp 𝕄 := iprop((bigSep Finset.univ fun s : S => fin F c s) ∗ semVal (bar c) 0
    ∗ ((((c : Thread nD τ).loc main_arg0) ↦{fullShare} m ((c : Thread nD τ).loc main_arg0)) ∗ (((c : Thread nD τ).loc main_v1) ↦{fullShare} outF m c)) ∗ scratch F c)

/-- What the neighbours are handed at the handshake, and what stays. -/
def handed (F : FTy → Type) [FloatOps F] (c : Dev nD) : sProp (MT nD τ sig Unit (Elt F) ℕ UU ℕ) := iprop(
    barPay F (zn c) 0 ∗ barPay F (xn c) 1 ∗ barPay F (yn c) 2
    ∗ (bigSep Finset.univ fun k : Fin 8 => anyOwn F c (oC (qm c) k)) ∗ (bigSep Finset.univ fun j : Fin 4 => anyOwn F c (oC (qm (xn c)) (lo j)))
    ∗ (bigSep Finset.univ fun j : Fin 4 => anyOwn F c (oC (qm (yn c)) (hi j))) ∗ (bigSep Finset.univ fun k : Fin 8 => anyOwn F c (sl8 qB k)))

theorem hand_over (c : Dev nD) : iprop(anyBuf F c main_v1 ∗ scratch F c) ⊢ handed F c := by
  unfold handed scratch barPay
  rw [zn_zn, xn_xn, yn_yn, xn_yn]
  simp only [bigSep_sep']
  iintro ⟨Ho, Hq, Hm, Hx, Hy⟩
  ihave Ho := (cut_o c) $$ Ho
  ihave Hq := (cut_q c) $$ Hq
  ihave Hm := (cut_m c) $$ Hm
  ihave Hx := (cut_gx c) $$ Hx
  ihave Hy := (cut_gy c) $$ Hy
  ihave Ho := (Entails.of_eq (bigSepQ c (fun t => anyOwn F c (oC t.1 t.2)))) $$ Ho
  icases Ho with ⟨O1, O2, O3, O4⟩
  ihave O2 := (splitLH _) $$ O2
  ihave O3 := (splitLH _) $$ O3
  ihave O4 := (splitLH _) $$ O4
  icases O2 with ⟨O2l, O2h⟩
  icases O3 with ⟨O3l, O3h⟩
  icases O4 with ⟨O4l, O4h⟩
  isplitl [Hm]; · iexact Hm
  isplitl [Hx O2h O4h]
  · isplitl [Hx]; · iexact Hx
    isplitl [O2h]; · iexact O2h
    iexact O4h
  isplitl [Hy O3l O4l]
  · isplitl [Hy]; · iexact Hy
    isplitl [O3l]; · iexact O3l
    iexact O4l
  isplitl [O1]; · iexact O1
  isplitl [O2l]; · iexact O2l
  isplitl [O3h]; · iexact O3h
  iexact Hq

/-- The result's chunks as the loops leave them are the result. -/
theorem gather_out (c : Dev nD) : iprop((bigSep Finset.univ fun k : Fin 8 => own c (oC (qm c) k) fullShare (red m c k)) ∗ (bigSep Finset.univ fun k : Fin 8 => own c (oC (qm (xn c)) k) fullShare (red m (xn c) k))
      ∗ (bigSep Finset.univ fun k : Fin 8 => own c (oC (qm (yn c)) k) fullShare (red m (yn c) k)) ∗ (bigSep Finset.univ fun k : Fin 8 => own c (oC (qm (yn (xn c))) k) fullShare (red m (yn (xn c)) k)))
    ⊢ (((c : Thread nD τ).loc main_v1) ↦{fullShare} outF m c) := by
  have h := bigSepQ c (fun t => own c (oC t.1 t.2) fullShare (res m c t.1 t.2))
  unfold res at h
  dsimp only at h
  rw [src_m, src_x, src_y, src_d] at h
  exact (Entails.of_eq h.symm).trans (join_out m c)

set_option maxHeartbeats 1000000 in
/-- The whole body on a device. -/
theorem body_spec (c : Dev nD) (W : Waits sig Unit) (Q₀ : PUnit → sProp 𝕄) :
    iprop(Φ₀ m c ∗ owes (c : Thread nD τ) (O₀ c) W)
      ⊢ iprop(((Φ₁ m c ∗ ∃ W', owes (c : Thread nD τ) (0 : CellTallies nD τ sig Unit) W') -∗ Q₀ ⟨⟩) -∗ Wp c (phased (F := F)) Q₀) := by
  unfold Φ₀ rights phased
  simp only [Prog.lift, Prog.bind_op, Prog.bind_ret, wp_deviceId, wp_bind]
  iintro ⟨⟨⟨%K, #Hctx, T, P, C, D0, D1, D2, Cb, Pb⟩, ⟨X, Ov⟩, Sc⟩, Ho⟩ Hk
  ihave Hh := (hand_over c) $$ [Ov Sc]
  · isplitl [Ov] <;> iassumption
  unfold handed
  icases Hh with ⟨B0, B1, B2, O1, O2, O3, Hq⟩
  iapply (handshake_spec m K c W) $$ [Ho D0 D1 D2 B0 B1 B2 Cb Pb]
  · isplitr; · iexact Hctx
    isplitl [Ho]; · iexact Ho
    isplitl [D0]; · iexact D0
    isplitl [D1]; · iexact D1
    isplitl [D2]; · iexact D2
    isplitl [B0]; · iexact B0
    isplitl [B1]; · iexact B1
    isplitl [B2]; · iexact B2
    isplitl [Cb] <;> iassumption
  iintro ⟨Ho, Zb, B0, B1, B2⟩
  ihave X := (cut_x m c) $$ X
  ihave X := (Entails.of_eq (bigSepQ c (fun t => own c (xC t.1 t.2) fullShare (xv m c t.1 t.2)))) $$ X
  icases X with ⟨X, X2, X3, X4⟩
  iapply (exchange_spec m K c) $$ [X Hq O1 O2 O3 B0 B1 B2 T P C Ho]
  · isplitr [Ho]
    · unfold exPre
      isplitl [X]; · iexact X
      isplitl [Hq]; · iexact Hq
      isplitl [O1]; · iexact O1
      isplitl [O2]; · iexact O2
      isplitl [O3]; · iexact O3
      isplitl [B0]; · iexact B0
      isplitl [B1]; · iexact B1
      isplitl [B2]; · iexact B2
      isplitl [T]; · iexact T
      isplitl [P] <;> iassumption
    · unfold st
      isplitr; · iexact Hctx
      iexact Ho
  unfold exPost st owe
  rw [owed_end]
  iintro ⟨⟨Z, X, Hq, Hm, Hx, Hy, R1, R2, R3, R4⟩, -, ⟨%W', Ho⟩⟩
  iapply Hk
  isplitr [Ho]; swap; · iexists W'; iexact Ho
  unfold Φ₁ scratch
  isplitl [Z]; · iexact Z
  isplitl [Zb]; · iexact Zb
  isplitr [Hq Hm Hx Hy]
  · isplitr [R1 R2 R3 R4]
    · iapply (join_x m c)
      iapply (Entails.of_eq (bigSepQ c (fun t => own c (xC t.1 t.2) fullShare (xv m c t.1 t.2))).symm)
      isplitl [X]; · iexact X
      isplitl [X2]; · iexact X2
      isplitl [X3] <;> iassumption
    · iapply (gather_out m c)
      isplitl [R1]; · iexact R1
      isplitl [R2]; · iexact R2
      isplitl [R3] <;> iassumption
  isplitl [Hq]; · iapply (join_q c); iexact Hq
  isplitl [Hm]; · iapply (join_m c); iexact Hm
  isplitl [Hx]; · iapply (join_gx c); iexact Hx
  iapply (join_gy c); iexact Hy

end Cert.KernelIdeal.Ring

end
-- ==== Proof.Run.lean ====
/-
The run of the whole mesh: the cells funded, their rights dealt to the devices that use them, and the result read off.
-/
module

public import proofs.«01_k».proof.Proof.Body
public import Idealize.ShloMosaic.Lib.Pipeline.CollectiveSegs
public import Idealize.ShloMosaic.Lib.Quiescent

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option S → ℕ)

open Idealize.ShloMosaic.Pipeline (Dat Cfg Window BodyObligation cellOf)

variable (ρ : Dev nD → PrngReg)

/-! ## The region's data -/

/-- The kernel's own semaphores. -/
abbrev osem : S → SemLoc sig := fun s => csem (some s)

/-- One point: what holds before and after it, and what is owed. -/
def dats (_ : Fin 1) (c : Dev nD) : Dat τ (Elt F) Unit ℕ UU ℕ cfg0 c where
  A w := (show Fin 0 from w).elim0
  after w _ := (show Fin 0 from w).elim0
  Φ t := match t with
    | ⟨0, _⟩ => Φ₀ m c
    | ⟨_ + 1, _⟩ => Φ₁ m c
  q _ := fullShare
  owed t := match t with
    | ⟨0, _⟩ => O₀ c
    | ⟨_ + 1, _⟩ => 0

set_option maxRecDepth 8000 in
theorem body_obligation (c : Dev nD) : BodyObligation (dats (F := F) m 0 c) (defs₀ (F := F)) 𝒱₀ () Set.univ := fun t => by
  rw [fin_N0 t]
  have e (Ψ : Fin cfg0.W → sProp 𝕄) : bigSep Finset.univ Ψ = iprop(emp) := BI.bigSep_empty
  rw [e, e]
  have hb : (defs₀ (F := F)) .tc cfg0.body (cfg0.bodyArgs t0_0 (cfg0.slots t0_0)) = phased := body_eq
  rw [hb]
  unfold Dat.owesAt Pipeline.owesWithin
  rw [show (dats m 0 c).owed t0_0.castSucc = O₀ c from rfl, show (dats m 0 c).owed t0_0.succ = 0 from rfl,
    show (dats m 0 c).Φ t0_0.castSucc = Φ₀ m c from rfl, show (dats m 0 c).Φ t0_0.succ = Φ₁ m c from rfl]
  iintro ⟨HΦ, ⟨%W, -, Ho⟩, -⟩
  iapply (body_spec m c W) $$ [HΦ Ho]
  · isplitl [HΦ] <;> iassumption
  iintro ⟨HΦ, ⟨%W', Ho⟩⟩
  isplitl [HΦ]; · iexact HΦ
  isplitl [Ho]
  · iexists W'
    isplitr; · ipureintro; exact fun _ _ => Or.inl trivial
    iexact Ho
  iempintro

/-! ## Funding -/

theorem ownSemFacts : Pipeline.OwnSemFacts cfg0.spec osem where
  isScoped := by decide +kernel
  inj := fun s s' h => Option.some.inj (csem_inj h)
  disj := fun _ w => (show Fin 0 from w).elim0

def allCells : Finset (GSem nD τ sig) := Finset.univ.map ⟨cellAt, cellAt_inj⟩

/-- The duties' tokens: three for each barrier, one for each transfer's cell. -/
def tokOf (x : Dev nD × (Fin 3 ⊕ S)) : GSem nD τ sig × ℕ × Fin 3 := match x.2 with
  | .inl d => (bar x.1, 0, d)
  | .inr s => (cell x.1 s, 0, 0)
theorem tokOf_inj : Function.Injective tokOf := by
  rintro ⟨c, d | s⟩ ⟨c', d' | s'⟩ h
  · have h1 := cellAt_inj (congrArg Prod.fst h)
    have h2 : d = d' := congrArg (fun x => x.2.2) h
    rw [show c = c' from congrArg Prod.fst h1, h2]
  · exact absurd (congrArg Prod.snd (cellAt_inj (congrArg Prod.fst h))) (fun h => by cases h)
  · exact absurd (congrArg Prod.snd (cellAt_inj (congrArg Prod.fst h))) (fun h => by cases h)
  · have h1 := cellAt_inj (congrArg Prod.fst h)
    rw [show c = c' from congrArg Prod.fst h1, show s = s' from Option.some.inj (congrArg Prod.snd h1)]
def allToks : Finset (GSem nD τ sig × ℕ × Fin 3) := Finset.univ.map ⟨tokOf, tokOf_inj⟩

def u₀ : UU := (initOf (Pipeline.cells cfgs cellOf_inj) (Pipeline.launchToks cfgs cellOf_inj), initOf allCells allToks)

/-- The tokens of a device's own cells. -/
def toks (F : FTy → Type) [FloatOps F] (c : Dev nD) : sProp (MT nD τ sig Unit (Elt F) ℕ UU ℕ) :=
  iprop((bigSep Finset.univ fun d : Fin 3 => dutyTok ER (bar c) 0 d) ∗ bigSep Finset.univ fun s : S => tok F c s)
/-- What a device is dealt. -/
def G (c : Dev nD) : sProp 𝕄 :=
  iprop((bigSep Finset.univ fun i : Option S => roundState ER (rd m) (cellAt (c, i)) 0)
    ∗ (bigSep Finset.univ fun i : Option S => iprop(atPos ER (cellAt (c, i)) 0 ∅ 0 ∗ reached ER (cellAt (c, i)) 0)) ∗ toks F c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : Option S => Φ (cellAt (c, i)) := by
    unfold allCells; rw [bigSep_map, bigSep_univ_prod]; rfl
  have hT : bigSep allToks (fun x => (dutyTok ER x.1 x.2.1 x.2.2 : sProp 𝕄)) = bigSep Finset.univ fun c : Dev nD => toks F c := by
    unfold allToks; rw [bigSep_map, bigSep_univ_prod]
    exact bigSep_congr fun c _ => by unfold toks; rw [bigSep_univ_sum]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A family over the barrier and the names. -/
theorem bigSepO (Φ : Option S → sProp 𝕄) : bigSep Finset.univ Φ = iprop(Φ none ∗ bigSep Finset.univ fun s : S => Φ (some s)) := by
  rw [bigSep_univ_at Φ none]
  have e : (Finset.univ : Finset (Option S)).erase none = Finset.univ.map ⟨some, Option.some_injective S⟩ := by
    ext i; cases i <;> simp
  rw [e, bigSep_map]
  rfl

theorem unscopedSems0_eq (c : Dev nD) : (unscopedSems0 c : sProp 𝕄) = semVal (bar c) 0 := by
  unfold unscopedSems0; rw [bigSep_eq_bigSepL_of_eq [SemLoc.reg barS] (by decide) (by decide)]; rfl

theorem ownSems_eq (c : Dev nD) : (Pipeline.ownSems0 osem c : sProp 𝕄) = bigSep Finset.univ fun s : S => fin F c s := rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Option S => semVal (cellAt (c, i)) 0 : sProp 𝕄) := by
  rw [unscopedSems0_eq, bigSepO, ownSems_eq]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Option S => iprop(∃ κ : ℕ, cellInv ER (rd m) κ (cellAt (c, i))))
          ∗ (bigSep Finset.univ fun i : Option S => iprop(atPos ER (cellAt (c, i)) 0 ∅ 0 ∗ reached ER (cellAt (c, i)) 0)) ∗ toks F c) := by
  unfold G
  iintro ⟨Hos, Hus, Hst, Hat, Htok⟩
  ihave Hv := (sems0_eq (F := F) c) $$ [Hos Hus]
  · isplitl [Hos] <;> iassumption
  imod (show iprop((bigSep Finset.univ fun i : Option S => semVal (cellAt (c, i)) 0) ∗ bigSep Finset.univ fun i : Option S => roundState ER (rd m) (cellAt (c, i)) 0)
      ⊢ (|={Set.univ}=> bigSep Finset.univ fun i : Option S => iprop(∃ κ : ℕ, cellInv ER (rd m) κ (cellAt (c, i))) : sProp 𝕄) from by
        rw [← bigSep_sep']
        exact (bigSep_mono fun i _ => (Rounds.body_intro ER (rd m) (cellAt (c, i))).trans inv_alloc).trans (bigSep_fupd _ _)) $$ [Hv Hst] with Hinv
  · isplitl [Hv] <;> iassumption
  imodintro
  isplitl [Hinv]; · iexact Hinv
  isplitl [Hat]; · iexact Hat
  iexact Htok

/-- What all devices share. -/
def records (K : Dev nD × Option S → ℕ) : sProp 𝕄 :=
  iprop((bigSep Finset.univ fun p => cellInv ER (rd m) (K p) (cellAt p)) ∗ (bigSep Finset.univ fun p => reached ER (cellAt p) 0))
instance records_persistent (K : Dev nD × Option S → ℕ) : BI.Persistent (records m K) := by unfold records; infer_instance

/-- The tokens of the duties a device pays. -/
def payToks (F : FTy → Type) [FloatOps F] (c : Dev nD) : sProp (MT nD τ sig Unit (Elt F) ℕ UU ℕ) :=
  iprop((bigSep Finset.univ fun d : Fin 3 => dutyTok ER (bar (bnb c d)) 0 d) ∗ bigSep Finset.univ fun s : S => tk F c s)
def linear (F : FTy → Type) [FloatOps F] (c : Dev nD) : sProp (MT nD τ sig Unit (Elt F) ℕ UU ℕ) :=
  iprop((bigSep Finset.univ fun i : Option S => atPos ER (cellAt (c, i)) 0 ∅ 0) ∗ payToks F c)
def G' (c : Dev nD) : sProp 𝕄 := iprop(∃ K, records m K ∗ linear F c)

/-- Tokens dealt along an exchange that is its own inverse. -/
theorem around {D : Type} [Fintype D] (f : Dev nD → D → Dev nD) (hf : ∀ c d, f (f c d) d = c) (Ψ : Dev nD → D → sProp 𝕄) :
    (bigSep Finset.univ fun c : Dev nD => bigSep Finset.univ fun d : D => Ψ c d) = bigSep Finset.univ fun c : Dev nD => bigSep Finset.univ fun d : D => Ψ (f c d) d := by
  rw [Pipeline.bigSep_univ_comm, Pipeline.bigSep_univ_comm (fun (c : Dev nD) (d : D) => Ψ (f c d) d)]
  exact bigSep_congr fun d _ => bigSep_univ_equiv (⟨fun c => f c d, fun c => f c d, fun c => hf c d, fun c => hf c d⟩ : Dev nD ≃ Dev nD) (fun c => Ψ c d)

theorem toks_around : (bigSep Finset.univ fun c : Dev nD => toks F c) ⊢ bigSep Finset.univ fun c : Dev nD => payToks F c := by
  unfold toks payToks
  rw [bigSep_sep', bigSep_sep', around bnb bnb_bnb (fun c d => (dutyTok ER (bar c) 0 d : sProp 𝕄)), around tgt tgt_tgt (fun c s => tok F c s)]

theorem with_persistent {I : Type} [DecidableEq I] {T : Finset I} {R : sProp 𝕄} [BI.Persistent R] {Φ Ψ : I → sProp 𝕄}
    (h : ∀ i ∈ T, iprop(R ∗ Φ i) ⊢ Ψ i) : iprop(R ∗ bigSep T Φ) ⊢ bigSep T Ψ :=
  (sep_mono_left (BI.bigSep_of_persistent T R)).trans (by rw [← bigSep_sep']; exact bigSep_mono h)

theorem regroup :
    (bigSep Finset.univ fun c : Dev nD => iprop((bigSep Finset.univ fun i : Option S => iprop(∃ κ : ℕ, cellInv ER (rd m) κ (cellAt (c, i))))
          ∗ (bigSep Finset.univ fun i : Option S => iprop(atPos ER (cellAt (c, i)) 0 ∅ 0 ∗ reached ER (cellAt (c, i)) 0)) ∗ toks F c) : sProp 𝕄)
      ⊢ bigSep Finset.univ (G' m) := by
  rw [bigSep_sep', bigSep_sep', ← bigSep_univ_prod (fun p : Dev nD × Option S => iprop(∃ κ : ℕ, cellInv ER (rd m) κ (cellAt p))),
    bigSep_congr (s := Finset.univ) (fun (c : Dev nD) _ => bigSep_sep' Finset.univ (fun i : Option S => (atPos ER (cellAt (c, i)) 0 ∅ 0 : sProp 𝕄)) (fun i => reached ER (cellAt (c, i)) 0)),
    bigSep_sep', ← bigSep_univ_prod (fun p : Dev nD × Option S => (reached ER (cellAt p) 0 : sProp 𝕄))]
  iintro ⟨HI, ⟨Hat, #HR⟩, Htok⟩
  ihave HK := (BI.bigSep_exists_pi Finset.univ (fun (p : Dev nD × Option S) (κ : ℕ) => (cellInv ER (rd m) κ (cellAt p) : sProp 𝕄))) $$ HI
  icases HK with ⟨%K, #HI⟩
  ihave Htk := (toks_around (F := F)) $$ Htok
  have hg (c : Dev nD) : iprop(records m K ∗ linear F c) ⊢ G' m c := by
    unfold G'; iintro H; iexists K; iexact H
  iapply (with_persistent (R := records m K) fun c _ => hg c)
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits at launch -/

theorem cell_eq {p p' : Dev nD × Option S} : cellAt p = cellAt p' ↔ p = p' := ⟨fun h => cellAt_inj h, fun h => h ▸ rfl⟩

theorem owed_cell (d c : Dev nD) (s : S) (h : s.ord < 32) : owed d 0 (cell c s) () = if d = tgt c s then N else 0 := by
  unfold owed
  rw [Finset.sum_apply, Finsupp.finset_sum_apply]
  have e : ∀ s' ∈ Finset.univ.filter (fun s : S => 0 ≤ s.ord ∧ s.ord < 32), (tallyAt (cell (tgt d s') s') () N : CellTallies nD τ sig Unit) (cell c s) () = if s' = s then (if d = tgt c s then N else 0) else 0 := by
    intro s' _
    rw [tallyAt_apply]
    by_cases hs : s' = s
    · subst hs
      rw [if_pos rfl]
      by_cases hd : d = tgt c s'
      · subst hd; rw [if_pos rfl, tgt_tgt, if_pos ⟨rfl, rfl⟩]
      · rw [if_neg hd, if_neg]
        rintro ⟨h1, -⟩
        have h2 : c = tgt d s' := congrArg Prod.fst (cellAt_inj h1)
        exact hd (by rw [h2, tgt_tgt])
    · rw [if_neg hs, if_neg]
      rintro ⟨h1, -⟩
      exact hs (Option.some.inj (congrArg Prod.snd (cellAt_inj h1))).symm
  rw [Finset.sum_congr rfl e, Finset.sum_ite_eq' _ s, if_pos (Finset.mem_filter.mpr ⟨Finset.mem_univ _, Nat.zero_le _, h⟩)]

theorem owed_bar (d c : Dev nD) : owed d 0 (bar c) () = 0 := by
  by_contra h
  obtain ⟨s, -, -, h⟩ := owed_pos (Nat.pos_of_ne_zero h)
  exact absurd (congrArg Prod.snd (cellAt_inj h)) (fun h => by cases h)

theorem bar_ne (d c : Dev nD) (s : S) : cell c s ≠ bar d := fun h => by
  exact absurd (congrArg Prod.snd (cellAt_inj h)) (fun h => by cases h)

theorem O₀_cell (d c : Dev nD) (s : S) (h : s.ord < 32) : O₀ d (cell c s) () = if d = tgt c s then N else 0 := by
  unfold O₀
  simp only [Pi.add_apply, Finsupp.add_apply]
  rw [tallyAt_ne_cell (bar_ne _ _ _), tallyAt_ne_cell (bar_ne _ _ _), tallyAt_ne_cell (bar_ne _ _ _), owed_cell d c s h]
  rfl

theorem tally_bar (f : Dev nD → Dev nD) (hf : ∀ c, f (f c) = c) (d c : Dev nD) : (tallyAt (bar (f d)) () 1 : CellTallies nD τ sig Unit) (bar c) () = if d = f c then 1 else 0 := by
  rw [tallyAt_apply]
  by_cases h : d = f c
  · subst h; rw [hf, if_pos ⟨rfl, rfl⟩, if_pos rfl]
  · rw [if_neg h, if_neg]
    rintro ⟨h1, -⟩
    have h2 : c = f d := congrArg Prod.fst (cellAt_inj h1)
    exact h (by rw [h2, hf])

theorem O₀_bar (d c : Dev nD) : O₀ d (bar c) () = (if d = yn c then 1 else 0) + (if d = xn c then 1 else 0) + (if d = zn c then 1 else 0) := by
  unfold O₀
  simp only [Pi.add_apply, Finsupp.add_apply]
  rw [tally_bar yn yn_yn, tally_bar xn xn_xn, tally_bar zn zn_zn, owed_bar, Nat.zero_add]

theorem launch_cell (c : Dev nD) (s : S) (h : s.ord < 32) :
    tallyOn (cell c s) (launchCredit (Pipeline.owing O₀) 0 (cell c s)) = (tallyAt (cell c s) () N : CellTallies nD τ sig Unit) := by
  unfold tallyAt; refine congrArg _ (Finsupp.ext fun u => ?_); cases u
  rw [Pipeline.launchCredit_owing, Finsupp.single_eq_same, Finset.sum_congr rfl fun d _ => O₀_cell d c s h, Finset.sum_ite_eq' Finset.univ (tgt c s) fun _ => N, if_pos (Finset.mem_univ _)]

theorem launch_bar (c : Dev nD) : tallyOn (bar c) (launchCredit (Pipeline.owing O₀) 0 (bar c)) = (tallyAt (bar c) () 3 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib, Finset.sum_add_distrib,
    Finset.sum_ite_eq' Finset.univ (yn c) fun _ => 1, Finset.sum_ite_eq' Finset.univ (xn c) fun _ => 1, Finset.sum_ite_eq' Finset.univ (zn c) fun _ => 1]
  simp only [Finset.mem_univ, if_true]

theorem creds (c : Dev nD) : (Pipeline.launchCred O₀ c : sProp 𝕄) ⊢ iprop(cred (tallyAt (bar c) () 3) ∗ bigSep Finset.univ fun s : S => crd₀ F c s) := by
  have hs : (Pipeline.launchCred O₀ c : sProp 𝕄) ⊢ bigSep (Finset.univ.map ⟨csem, csem_inj⟩) fun sm : SemLoc sig => cred (tallyOn ((c : Thread nD τ), sm) (launchCredit (Pipeline.owing O₀) 0 ((c : Thread nD τ), sm))) := by
    unfold Pipeline.launchCred
    exact bigSep_subset (Finset.subset_univ _)
  have ho (s : S) : (cred (tallyOn (cell c s) (launchCredit (Pipeline.owing O₀) 0 (cell c s))) : sProp 𝕄) ⊢ crd₀ F c s := by
    unfold crd₀
    by_cases h : s.ord < 32
    · rw [if_pos h, launch_cell c s h]
    · rw [if_neg h]; iintro -; iempintro
  refine hs.trans ?_
  rw [bigSep_map, bigSepO]
  have hb : (cred (tallyOn (bar c) (launchCredit (Pipeline.owing O₀) 0 (bar c))) : sProp 𝕄) ⊢ cred (tallyAt (bar c) () 3) :=
    Entails.of_eq (by rw [launch_bar])
  have hc : (bigSep Finset.univ fun s : S => (cred (tallyOn (cell c s) (launchCredit (Pipeline.owing O₀) 0 (cell c s))) : sProp 𝕄)) ⊢ bigSep Finset.univ fun s : S => crd₀ F c s :=
    bigSep_mono fun s _ => ho s
  exact BI.sep_mono hb hc

/-! ## The side conditions -/

/-- What a device enters the region with. -/
def start (c : Dev nD) : sProp 𝕄 := iprop((∃ K, ctx m K ∗ rights (F := F) c)
    ∗ ((((c : Thread nD τ).loc main_arg0) ↦{fullShare} m ((c : Thread nD τ).loc main_arg0)) ∗ anyBuf F c main_v1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have e3 (Ψ : Fin 3 → sProp 𝕄) : bigSep Finset.univ Ψ = iprop(Ψ 0 ∗ Ψ 1 ∗ Ψ 2) := bigSep_univ_eq_bigSepL [0, 1, 2] (by decide) (by decide) Ψ
  rw [Pipeline.unscopedRestP_none, unscopedRest0_eq]
  iintro ⟨⟨Hx, Hv⟩, #Hlev, Hcr, -, HG⟩
  ihave Hc := (creds (F := F) c) $$ Hcr
  icases Hc with ⟨H3, Hcs⟩
  imodintro
  unfold start G' records linear payToks rights ctx
  rw [bigSepO, e3]
  icases HG with ⟨%K, ⟨#HI, #HR⟩, ⟨Pb, P⟩, ⟨D0, D1, D2⟩, T⟩
  isplitl
  · isplitr [Hx Hv]
    · iexists K
      isplitr
      · isplitr; · iexact HI
        isplitr; · iexact HR
        iexact Hlev
      isplitl [T]; · iexact T
      isplitl [P]; · iexact P
      isplitl [Hcs]; · iexact Hcs
      isplitl [D0]; · iexact D0
      isplitl [D1]; · iexact D1
      isplitl [D2]; · iexact D2
      isplitl [H3]; · iexact H3
      iexact Pb
    isplitl [Hx]; · iexact Hx
    iexists _; iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start scratch
  iintro ⟨⟨Hg, Ha⟩, -, Hs⟩
  isplitl [Hg]; · iexact Hg
  isplitl [Ha]; · iexact Ha
  iexact Hs

/-- What a device leaves with. -/
def stop (c : Dev nD) : sProp 𝕄 := iprop(((((c : Thread nD τ).loc main_arg0) ↦{fullShare} m ((c : Thread nD τ).loc main_arg0)) ∗ (((c : Thread nD τ).loc main_v1) ↦{fullShare} outF m c)) ∗ unscopedSems0 c)

theorem phi1_exit (c : Dev nD) :
    (dats m 0 c).Φ (Fin.last cfg0.N) ⊢ iprop(stop m c ∗ Pipeline.ownSems0 osem c ∗ Pipeline.scopedRest cfg0.spec c) := by
  rw [show (dats m 0 c).Φ (Fin.last cfg0.N) = Φ₁ m c from rfl, scopedRest0_eq]
  unfold Φ₁ stop scratch
  rw [unscopedSems0_eq, ownSems_eq]
  iintro ⟨Hz, Hb, Ha, Hs⟩
  isplitl [Hb Ha]
  · isplitl [Ha] <;> iassumption
  isplitl [Hz]; · iexact Hz
  iexact Hs

theorem waits (c : Dev nD) : (levAts L lv : sProp 𝕄) ⊢ Pipeline.cellsWaits cfgs (dats m) () 0 c :=
  Pipeline.cellsWaits_intro cfgs (dats m) () 0 c fun w => (show Fin 0 from w).elim0

/-- A device's two arrays read off the memory. -/
theorem stop_read (c : Dev nD) (s' : Phys nD τ sig (Elt F)) :
    iprop(stop m c ∗ emp ∗ SI s') ⊢ |={Set.univ}=> iprop(⌜(s'.mem.mem ((c : Thread nD τ).loc main_arg0) = m ((c : Thread nD τ).loc main_arg0) ∧ s'.mem.mem ((c : Thread nD τ).loc main_v1) = outF m c)
        ∧ ∀ sm : SemLoc sig, sm.isScoped .tc = false → s'.mem.sem ((c.tc : Thread nD τ), sm) = 0⌝ ∗ SI s') := by
  have hr (ℓ : Loc nD τ sig) (f : Buf (Elt F) ℓ) : iprop((ℓ ↦{fullShare} f) ∗ SI s') ⊢ (iprop(⌜s'.mem.mem ℓ = f⌝ ∗ SI s') : sProp 𝕄) := by
    have h := pointsTo_read_all' (Finset.univ : Finset Unit) (fun _ => ℓ) (fun _ => f) s' (fun _ => fullShare) (Ix := Unit) (Name := ℕ) (U := UU) (Lvl := ℕ)
    rw [show (bigSep (Finset.univ : Finset Unit) fun _ => (ℓ ↦{fullShare} f : sProp 𝕄)) = (ℓ ↦{fullShare} f) from bigSep_singleton] at h
    refine h.trans ?_
    iintro ⟨%h, H⟩
    isplitr; · ipureintro; exact h () (Finset.mem_univ _)
    iexact H
  unfold stop
  iintro ⟨⟨⟨Hx, Hv⟩, Hu⟩, -, HSI⟩
  ihave H := (hr _ _) $$ [Hx HSI]
  · isplitl [Hx] <;> iassumption
  icases H with ⟨%h1, HSI⟩
  ihave H := (hr _ _) $$ [Hv HSI]
  · isplitl [Hv] <;> iassumption
  icases H with ⟨%h2, HSI⟩
  imod (Pipeline.unscopedSems0_read (X := unscopedSems0 c) (c := c) fupd_intro s') $$ [Hu HSI] with ⟨%h3, HSI⟩
  · isplitl [Hu] <;> iassumption
  imodintro
  isplitr; · ipureintro; exact ⟨⟨h1, h2⟩, h3⟩
  iexact HSI

/-! ## The run -/

set_option maxRecDepth 8000 in
/-- From any memory with zero counters every execution of the eight devices terminates; each device's operand is
    unchanged, its result holds the sums, and every semaphore counter is zero. -/
theorem run_main : θ_run defs (onTc (τ := τ) (main (F := F))) ⟨m, fun _ => 0, ρ⟩
    (fun r => (∀ c : Dev nD, r.2.mem ((c : Thread nD τ).loc main_arg0) = m ((c : Thread nD τ).loc main_arg0) ∧ r.2.mem ((c : Thread nD τ).loc main_v1) = outF m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => (show Fin 0 from w).elim0) (harr := arr_whole0) (hstage := stage_whole0) (hshare := fun c w => (show Fin 0 from w).elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => (show Fin 0 from w).elim0) (hpf := fun _ k => k.elim0)
    (X := start m) (Y := stop m) (Z := fun _ => iprop(emp))
    (hX := start_intro m ρ) (hin := phi0_intro m) (hout := phi1_exit m)
    (QY := fun c s => (s.mem ((c : Thread nD τ).loc main_arg0) = m ((c : Thread nD τ).loc main_arg0) ∧ s.mem ((c : Thread nD τ).loc main_v1) = outF m c)
      ∧ ∀ sm : SemLoc sig, sm.isScoped .tc = false → s.sem ((c.tc : Thread nD τ), sm) = 0)
    (hY := stop_read m)
    (hQ := fun _ h hs => ⟨fun c => (h c).2.2.1, sem_eq_zero hs fun c => (h c).2.2.2⟩)

end Cert.KernelIdeal.Ring

end
-- ==== Proof.Value.lean ====
/-
The reference: its run on one device, and what its sum over the leading axis of the reshaped array is at an index. With it the value
the mesh computes, read the same way.
-/
module

public import proofs.«01_k».proof.Proof.Run
public import proofs.«01_k».proof.Proof.Gen.ReferenceIdeal
public import Idealize.ShloMosaic.Lib.StableHlo.Run
public import Idealize.ShloMosaic.Lib.StableHlo.RunClose
public import Idealize.ShloMosaic.Lib.IdealHost
public import Idealize.ShloMosaic.Lib.Pointwise.Reduce
public import Idealize.ShloMosaic.Lib.Layout
public import Idealize.ShloMosaic.Lib.Quiescent

@[expose] public section

noncomputable section

namespace Cert.SumOfTwo

open Idealize.ShloMosaic Idealize.ShloMosaic.TcCoe Idealize.ShloMosaic.StableHlo Idealize.SL.Sem

/-! ## The reference's run -/

section Reference

open Cert.ReferenceIdeal Cert.ReferenceIdeal.Gen

variable {F : FTy → Type} [FloatOps F]

/-- The reference's three operations, in order. -/
abbrev ops : List (HloOp τ sig (Elt F)) :=
  [ StableHlo.reshape main_arg0 main_v0 (rfl : (.f32 : EltTy) = .f32) shapeCasts_S8192x1024_S2x4096x1024,
    nullary main_cst (constant S_ .f32 0x00000000#32),
    binary main_v0 main_cst main_v1 (fun x v => Host.reduceAdd x v reducesTo_S2x4096x1024_S4096x1024_d0 h_S_) ]

theorem main_eq (d : Dev nD) : main (F := F) d = seq ops := by
  simp only [main, seq, bind_assoc, pure_bind]; rfl

/-- The reference's result as a function of its argument. -/
def total (X : FVec F S8192x1024 .f32) : FVec F S4096x1024 .f32 :=
  Host.reduceAdd (shapeCast S2x4096x1024 X shapeCasts_S8192x1024_S2x4096x1024) (constant S_ .f32 0x00000000#32) reducesTo_S2x4096x1024_S4096x1024_d0 h_S_

theorem total_eq (V : Valuation τ sig (Elt F)) : after ops V (main_v1 : DevRef τ sig) = total (V (main_arg0 : DevRef τ sig)) := by
  simp only [after_cons, after_nil]
  rfl

theorem arg_eq (V : Valuation τ sig (Elt F)) : after ops V (main_arg0 : DevRef τ sig) = V (main_arg0 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., binary_bufs_sub ..⟩

/-- The reference terminates from any memory with zero counters, its result the sum of its argument and its argument as it was. -/
theorem run_reference (m : (ℓ : Loc nD τ sig) → Buf (Elt F) ℓ) (ρ : Dev nD → PrngReg) :
    θ_run defs (onTc (τ := τ) (main (F := F))) ⟨m, fun _ => 0, ρ⟩ fun r =>
      ∀ d : Dev nD, r.2.mem ((d.tc : Thread nD τ).loc main_v1) = total (m ((d.tc : Thread nD τ).loc main_arg0))
        ∧ r.2.mem ((d.tc : Thread nD τ).loc main_arg0) = m ((d.tc : Thread nD τ).loc main_arg0) :=
  (θ_run defs _ _).mono (fun r h d => ⟨(h d main_v1).trans (total_eq _), (h d main_arg0).trans (arg_eq _)⟩)
    (run_seq scopedRefs_eq scopedSems_eq defs main (fun _ => ops) main_eq (fun _ => ops_sub) m ρ)

end Reference

/-! ## The reference's value at an index -/

/-- Row `r` of half `k` of the whole array. -/
abbrev row (k : Fin 2) (r : Fin 4096) : Fin 8192 := ⟨k.val * 4096 + r.val, by omega⟩

/-- At an index the reference is the sum of the two halves' elements. -/
theorem total_at (X : (⟨2, ![8192, 1024]⟩ : Shape).Idx → EReal) (r : Fin 4096) (l : Fin 1024) :
    total (F := Ideal) X (ValueIdx.ix2 r l) = X (ValueIdx.ix2 (row 0 r) l) + X (ValueIdx.ix2 (row 1 r) l) := by
  have hx (k : Fin 2) : shapeCast (⟨3, ![2, 4096, 1024]⟩ : Shape) X Cert.ReferenceIdeal.Gen.shapeCasts_S8192x1024_S2x4096x1024 (ValueIdx.ix3 k r l) = X (ValueIdx.ix2 (row k r) l) := by
    refine congrArg X (Shape.reshapeEquiv_eq_of_rowMajor _ ?_)
    rw [Shape.rowMajor_val_two, Shape.rowMajor_val_three]
    rfl
  unfold total
  rw [ValueIdx.hostReduceAdd_apply, Ideal.hostReduceAdd_r3_a0, Fin.sum_univ_two]
  have h0 : (constant (F := Ideal) Cert.ReferenceIdeal.S_ .f32 0x00000000#32) (Shape.Idx.first Cert.ReferenceIdeal.Gen.h_S_) = (0 : EReal) := Ideal.ofBits_zero_f32
  rw [h0, zero_add]
  exact congrArg₂ _ (hx 0) (hx 1)

/-! ## The mesh's value at an index -/

section Mesh

open Cert.KernelIdeal Cert.KernelIdeal.Ring

/-- A device's half: its coordinate along z. -/
def half (c : Dev nD) : Fin 2 := ⟨c.val % 2, Nat.mod_lt _ Nat.two_pos⟩

theorem half_zn (c : Dev nD) : half (zn c) = 1 - half c := by revert c; decide

/-- Device `c`'s block of the whole array at an index. -/
theorem block_at {α : Type} (X : (⟨2, ![8192, 1024]⟩ : Shape).Idx → α) (c : Dev nD) (r : Fin 4096) (l : Fin 1024) :
    Layout.blockN ⟨2, ![4096, 1024]⟩ ⟨2, ![8192, 1024]⟩ (Layout.meshBlock [2, 2, 2] ![[2], []] c) X (by decide) (ValueIdx.ix2 r l) = X (ValueIdx.ix2 (row (half c) r) l) := by
  have h2 (c : Dev nD) : Layout.meshLin [2, 2, 2] c.val [2] = c.val % 2 := by revert c; decide
  refine congrArg X (funext fun a => Fin.ext ?_)
  match a with
  | ⟨0, _⟩ => exact congrArg (fun k => k * 4096 + r.val) (h2 c)
  | ⟨1, _⟩ => exact Nat.zero_add l.val ▸ congrArg (fun k => k * 1024 + l.val) (show Layout.meshLin [2, 2, 2] c.val [] = 0 from rfl)

/-- Every device's result is the reference's. -/
theorem mesh_value (m : (ℓ : Loc nD τ sig) → Buf (Elt Ideal) ℓ) (X : (⟨2, ![8192, 1024]⟩ : Shape).Idx → EReal)
    (hm : ∀ c : Dev nD, m ((c.tc : Thread nD τ).loc main_arg0) = Layout.blockN ⟨2, ![4096, 1024]⟩ ⟨2, ![8192, 1024]⟩ (Layout.meshBlock [2, 2, 2] ![[2], []] c) X)
    (c : Dev nD) : outF (F := Ideal) m c = total (F := Ideal) X := by
  funext i
  obtain ⟨r, l, rfl⟩ : ∃ (r : Fin 4096) (l : Fin 1024), i = ValueIdx.ix2 r l := ⟨_, _, ValueIdx.eq_ix2 i⟩
  have hv (d : Dev nD) : m ((d.tc : Thread nD τ).loc main_arg0) (ValueIdx.ix2 r l) = X (ValueIdx.ix2 (row (half d) r) l) := by rw [hm d]; exact block_at X d r l
  have hs (d : Dev nD) : outF (F := Ideal) m c (ValueIdx.ix2 r l) = (X (ValueIdx.ix2 (row (half (src c (qtr (ValueIdx.ix2 r l)))) r) l) + X (ValueIdx.ix2 (row (half (zn (src c (qtr (ValueIdx.ix2 r l))))) r) l) : EReal) :=
    congrArg₂ _ (hv _) (hv _)
  rw [hs c, total_at, half_zn]
  generalize half (src c (qtr (ValueIdx.ix2 r l))) = k
  match k with
  | ⟨0, _⟩ => rfl
  | ⟨1, _⟩ => exact add_comm _ _

end Mesh

end Cert.SumOfTwo

end
-- ==== Proof.lean ====
module

public import proofs.«01_k».proof.Defs
public import proofs.«01_k».proof.Proof.Value
public import proofs.«01_k».proof.Proof.Bits.Run

@[expose] public section

noncomputable section

namespace Cert.Proof

open Idealize.ShloMosaic Idealize.SL.Sem

/-- The kernel over machine floats ends, its operand unchanged and its counters at zero. -/
theorem frame_kernel : Cert.quiescent_Kernel := fun m ρ _ =>
  (θ_run Cert.Kernel.defs _ _).mono (fun _ h => ⟨fun c => (h.1 c).1, h.2⟩) (Cert.Kernel.Ring.run_main (F := Bits) m ρ)

/-- So does the kernel over the extended reals. -/
theorem frame_ideal : Cert.quiescent_KernelIdeal := fun m ρ _ =>
  (θ_run Cert.KernelIdeal.defs _ _).mono (fun _ h => ⟨fun c => (h.1 c).1, h.2⟩) (Cert.KernelIdeal.Ring.run_main (F := Ideal) m ρ)

/-- And the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.SumOfTwo.run_reference (F := Ideal) m ρ)

/-- Every device's result is the reference's. -/
theorem equal : Cert.algebraic_KernelIdeal_ReferenceIdeal := fun m ρ m' ρ' _ hm =>
  ⟨_, (θ_run Cert.KernelIdeal.defs _ _).mono
      (fun _ h c => ⟨(h.1 c).2.trans (Cert.SumOfTwo.mesh_value m _ hm c), (h.1 c).1⟩) (Cert.KernelIdeal.Ring.run_main (F := Ideal) m ρ),
    (θ_run Cert.ReferenceIdeal.defs _ _).mono (fun _ h => h 0) (Cert.SumOfTwo.run_reference (F := Ideal) m' ρ')⟩

/-- All of the claims. -/
theorem claim : Cert.Claim := ⟨Cert.Kernel.Gen.facts, Cert.KernelIdeal.Gen.facts, Cert.ReferenceIdeal.Gen.facts,
  frame_kernel, frame_ideal, frame_reference, trivial, equal⟩

end Cert.Proof

end
